-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S24x128x32x128 : Shape := ⟨4, ![24, 128, 32, 128]⟩
abbrev S27x128x256 : Shape := ⟨3, ![27, 128, 256]⟩
abbrev S27x256 : Shape := ⟨2, ![27, 256]⟩
abbrev S256 : Shape := ⟨1, ![256]⟩
abbrev S4x26x128x32x128 : Shape := ⟨5, ![4, 26, 128, 32, 128]⟩
abbrev S4x27x16384 : Shape := ⟨3, ![4, 27, 16384]⟩
abbrev S27x256x128 : Shape := ⟨3, ![27, 256, 128]⟩
abbrev S27x256x1 : Shape := ⟨3, ![27, 256, 1]⟩
abbrev S4x27x32x4x128 : Shape := ⟨5, ![4, 27, 32, 4, 128]⟩
abbrev S1x256 : Shape := ⟨2, ![1, 256]⟩
abbrev S24x16384x256 : Shape := ⟨3, ![24, 16384, 256]⟩
abbrev S1x26x4x32x128 : Shape := ⟨5, ![1, 26, 4, 32, 128]⟩
abbrev S1x4x32x128 : Shape := ⟨4, ![1, 4, 32, 128]⟩
abbrev S1x27x1x4x128 : Shape := ⟨5, ![1, 27, 1, 4, 128]⟩
abbrev S1x512x256 : Shape := ⟨3, ![1, 512, 256]⟩
abbrev S256x256 : Shape := ⟨2, ![256, 256]⟩
abbrev S1x1x1x32x128 : Shape := ⟨5, ![1, 1, 1, 32, 128]⟩
abbrev S32x128 : Shape := ⟨2, ![32, 128]⟩
abbrev S128x128 : Shape := ⟨2, ![128, 128]⟩
abbrev S128x256 : Shape := ⟨2, ![128, 256]⟩
abbrev S1x256x128 : Shape := ⟨3, ![1, 256, 128]⟩
abbrev S256x128 : Shape := ⟨2, ![256, 128]⟩
abbrev S1x1x1x1x128 : Shape := ⟨5, ![1, 1, 1, 1, 128]⟩
abbrev S1x128 : Shape := ⟨2, ![1, 128]⟩
abbrev S1x1x32x128 : Shape := ⟨4, ![1, 1, 32, 128]⟩
abbrev S1x256x256 : Shape := ⟨3, ![1, 256, 256]⟩

abbrev nBuf : Space → Nat
  | .hbm => 37
  | .vmem => 72
  | .smem => 0
  | _ => 0

abbrev bufTy : (tb : Table) → Fin (tcTables nBuf tb) → BufTy
  | .hbm, ⟨0, _⟩ => ⟨S24x128x32x128, .i32⟩
  | .hbm, ⟨1, _⟩ => ⟨S27x128x256, .fp8e4m3⟩
  | .hbm, ⟨2, _⟩ => ⟨S27x256, .f32⟩
  | .hbm, ⟨3, _⟩ => ⟨S256, .f32⟩
  | .hbm, ⟨4, _⟩ => ⟨S4x26x128x32x128, .i32⟩
  | .hbm, ⟨5, _⟩ => ⟨S4x27x16384, .f32⟩
  | .hbm, ⟨6, _⟩ => ⟨S4x26x128x32x128, .i32⟩
  | .hbm, ⟨7, _⟩ => ⟨S4x27x16384, .f32⟩
  | .hbm, ⟨8, _⟩ => ⟨S4x26x128x32x128, .i32⟩
  | .hbm, ⟨9, _⟩ => ⟨S4x27x16384, .f32⟩
  | .hbm, ⟨10, _⟩ => ⟨S4x26x128x32x128, .i32⟩
  | .hbm, ⟨11, _⟩ => ⟨S4x27x16384, .f32⟩
  | .hbm, ⟨12, _⟩ => ⟨S4x26x128x32x128, .i32⟩
  | .hbm, ⟨13, _⟩ => ⟨S4x27x16384, .f32⟩
  | .hbm, ⟨14, _⟩ => ⟨S4x26x128x32x128, .i32⟩
  | .hbm, ⟨15, _⟩ => ⟨S4x27x16384, .f32⟩
  | .hbm, ⟨16, _⟩ => ⟨S27x256x128, .fp8e4m3⟩
  | .hbm, ⟨17, _⟩ => ⟨S27x256x1, .f32⟩
  | .hbm, ⟨18, _⟩ => ⟨S27x256x128, .f32⟩
  | .hbm, ⟨19, _⟩ => ⟨S4x27x32x4x128, .f32⟩
  | .hbm, ⟨20, _⟩ => ⟨S1x256, .f32⟩
  | .hbm, ⟨21, _⟩ => ⟨S24x16384x256, .f32⟩
  | .hbm, ⟨22, _⟩ => ⟨S4x27x32x4x128, .f32⟩
  | .hbm, ⟨23, _⟩ => ⟨S1x256, .f32⟩
  | .hbm, ⟨24, _⟩ => ⟨S24x16384x256, .f32⟩
  | .hbm, ⟨25, _⟩ => ⟨S4x27x32x4x128, .f32⟩
  | .hbm, ⟨26, _⟩ => ⟨S1x256, .f32⟩
  | .hbm, ⟨27, _⟩ => ⟨S24x16384x256, .f32⟩
  | .hbm, ⟨28, _⟩ => ⟨S4x27x32x4x128, .f32⟩
  | .hbm, ⟨29, _⟩ => ⟨S1x256, .f32⟩
  | .hbm, ⟨30, _⟩ => ⟨S24x16384x256, .f32⟩
  | .hbm, ⟨31, _⟩ => ⟨S4x27x32x4x128, .f32⟩
  | .hbm, ⟨32, _⟩ => ⟨S1x256, .f32⟩
  | .hbm, ⟨33, _⟩ => ⟨S24x16384x256, .f32⟩
  | .hbm, ⟨34, _⟩ => ⟨S4x27x32x4x128, .f32⟩
  | .hbm, ⟨35, _⟩ => ⟨S1x256, .f32⟩
  | .hbm, ⟨36, _⟩ => ⟨S24x16384x256, .f32⟩
  | .local _ .vmem, ⟨0, _⟩ => ⟨S1x26x4x32x128, .i32⟩
  | .local _ .vmem, ⟨1, _⟩ => ⟨S1x26x4x32x128, .i32⟩
  | .local _ .vmem, ⟨2, _⟩ => ⟨S1x4x32x128, .i32⟩
  | .local _ .vmem, ⟨3, _⟩ => ⟨S1x4x32x128, .i32⟩
  | .local _ .vmem, ⟨4, _⟩ => ⟨S1x27x1x4x128, .f32⟩
  | .local _ .vmem, ⟨5, _⟩ => ⟨S1x27x1x4x128, .f32⟩
  | .local _ .vmem, ⟨6, _⟩ => ⟨S27x256x128, .fp8e4m3⟩
  | .local _ .vmem, ⟨7, _⟩ => ⟨S27x256x128, .f32⟩
  | .local _ .vmem, ⟨8, _⟩ => ⟨S1x256, .f32⟩
  | .local _ .vmem, ⟨9, _⟩ => ⟨S1x512x256, .f32⟩
  | .local _ .vmem, ⟨10, _⟩ => ⟨S1x512x256, .f32⟩
  | .local _ .vmem, ⟨11, _⟩ => ⟨S256x256, .f32⟩
  | .local _ .vmem, ⟨12, _⟩ => ⟨S1x26x4x32x128, .i32⟩
  | .local _ .vmem, ⟨13, _⟩ => ⟨S1x26x4x32x128, .i32⟩
  | .local _ .vmem, ⟨14, _⟩ => ⟨S1x4x32x128, .i32⟩
  | .local _ .vmem, ⟨15, _⟩ => ⟨S1x4x32x128, .i32⟩
  | .local _ .vmem, ⟨16, _⟩ => ⟨S1x27x1x4x128, .f32⟩
  | .local _ .vmem, ⟨17, _⟩ => ⟨S1x27x1x4x128, .f32⟩
  | .local _ .vmem, ⟨18, _⟩ => ⟨S27x256x128, .fp8e4m3⟩
  | .local _ .vmem, ⟨19, _⟩ => ⟨S27x256x128, .f32⟩
  | .local _ .vmem, ⟨20, _⟩ => ⟨S1x256, .f32⟩
  | .local _ .vmem, ⟨21, _⟩ => ⟨S1x512x256, .f32⟩
  | .local _ .vmem, ⟨22, _⟩ => ⟨S1x512x256, .f32⟩
  | .local _ .vmem, ⟨23, _⟩ => ⟨S256x256, .f32⟩
  | .local _ .vmem, ⟨24, _⟩ => ⟨S1x26x4x32x128, .i32⟩
  | .local _ .vmem, ⟨25, _⟩ => ⟨S1x26x4x32x128, .i32⟩
  | .local _ .vmem, ⟨26, _⟩ => ⟨S1x4x32x128, .i32⟩
  | .local _ .vmem, ⟨27, _⟩ => ⟨S1x4x32x128, .i32⟩
  | .local _ .vmem, ⟨28, _⟩ => ⟨S1x27x1x4x128, .f32⟩
  | .local _ .vmem, ⟨29, _⟩ => ⟨S1x27x1x4x128, .f32⟩
  | .local _ .vmem, ⟨30, _⟩ => ⟨S27x256x128, .fp8e4m3⟩
  | .local _ .vmem, ⟨31, _⟩ => ⟨S27x256x128, .f32⟩
  | .local _ .vmem, ⟨32, _⟩ => ⟨S1x256, .f32⟩
  | .local _ .vmem, ⟨33, _⟩ => ⟨S1x512x256, .f32⟩
  | .local _ .vmem, ⟨34, _⟩ => ⟨S1x512x256, .f32⟩
  | .local _ .vmem, ⟨35, _⟩ => ⟨S256x256, .f32⟩
  | .local _ .vmem, ⟨36, _⟩ => ⟨S1x26x4x32x128, .i32⟩
  | .local _ .vmem, ⟨37, _⟩ => ⟨S1x26x4x32x128, .i32⟩
  | .local _ .vmem, ⟨38, _⟩ => ⟨S1x4x32x128, .i32⟩
  | .local _ .vmem, ⟨39, _⟩ => ⟨S1x4x32x128, .i32⟩
  | .local _ .vmem, ⟨40, _⟩ => ⟨S1x27x1x4x128, .f32⟩
  | .local _ .vmem, ⟨41, _⟩ => ⟨S1x27x1x4x128, .f32⟩
  | .local _ .vmem, ⟨42, _⟩ => ⟨S27x256x128, .fp8e4m3⟩
  | .local _ .vmem, ⟨43, _⟩ => ⟨S27x256x128, .f32⟩
  | .local _ .vmem, ⟨44, _⟩ => ⟨S1x256, .f32⟩
  | .local _ .vmem, ⟨45, _⟩ => ⟨S1x512x256, .f32⟩
  | .local _ .vmem, ⟨46, _⟩ => ⟨S1x512x256, .f32⟩
  | .local _ .vmem, ⟨47, _⟩ => ⟨S256x256, .f32⟩
  | .local _ .vmem, ⟨48, _⟩ => ⟨S1x26x4x32x128, .i32⟩
  | .local _ .vmem, ⟨49, _⟩ => ⟨S1x26x4x32x128, .i32⟩
  | .local _ .vmem, ⟨50, _⟩ => ⟨S1x4x32x128, .i32⟩
  | .local _ .vmem, ⟨51, _⟩ => ⟨S1x4x32x128, .i32⟩
  | .local _ .vmem, ⟨52, _⟩ => ⟨S1x27x1x4x128, .f32⟩
  | .local _ .vmem, ⟨53, _⟩ => ⟨S1x27x1x4x128, .f32⟩
  | .local _ .vmem, ⟨54, _⟩ => ⟨S27x256x128, .fp8e4m3⟩
  | .local _ .vmem, ⟨55, _⟩ => ⟨S27x256x128, .f32⟩
  | .local _ .vmem, ⟨56, _⟩ => ⟨S1x256, .f32⟩
  | .local _ .vmem, ⟨57, _⟩ => ⟨S1x512x256, .f32⟩
  | .local _ .vmem, ⟨58, _⟩ => ⟨S1x512x256, .f32⟩
  | .local _ .vmem, ⟨59, _⟩ => ⟨S256x256, .f32⟩
  | .local _ .vmem, ⟨60, _⟩ => ⟨S1x26x4x32x128, .i32⟩
  | .local _ .vmem, ⟨61, _⟩ => ⟨S1x26x4x32x128, .i32⟩
  | .local _ .vmem, ⟨62, _⟩ => ⟨S1x4x32x128, .i32⟩
  | .local _ .vmem, ⟨63, _⟩ => ⟨S1x4x32x128, .i32⟩
  | .local _ .vmem, ⟨64, _⟩ => ⟨S1x27x1x4x128, .f32⟩
  | .local _ .vmem, ⟨65, _⟩ => ⟨S1x27x1x4x128, .f32⟩
  | .local _ .vmem, ⟨66, _⟩ => ⟨S27x256x128, .fp8e4m3⟩
  | .local _ .vmem, ⟨67, _⟩ => ⟨S27x256x128, .f32⟩
  | .local _ .vmem, ⟨68, _⟩ => ⟨S1x256, .f32⟩
  | .local _ .vmem, ⟨69, _⟩ => ⟨S1x512x256, .f32⟩
  | .local _ .vmem, ⟨70, _⟩ => ⟨S1x512x256, .f32⟩
  | .local _ .vmem, ⟨71, _⟩ => ⟨S256x256, .f32⟩
  | _, _ => ⟨S24x128x32x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | _, _ => false

abbrev semScoped : Fin 0 → Bool
  | ⟨_, h⟩ => absurd h (Nat.not_lt_zero _)

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  ofTc nBuf bufTy 0 66 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg6_1 : Ref sig .tc := ⟨.vmem, 22, rfl⟩
abbrev cc1_scratch0 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc2_stg3_0 : Ref sig .tc := ⟨.vmem, 30, rfl⟩
abbrev cc2_stg4_0 : Ref sig .tc := ⟨.vmem, 31, rfl⟩
abbrev cc2_stg5_0 : Ref sig .tc := ⟨.vmem, 32, rfl⟩
abbrev cc2_stg6_0 : Ref sig .tc := ⟨.vmem, 33, rfl⟩
abbrev cc2_stg6_1 : Ref sig .tc := ⟨.vmem, 34, rfl⟩
abbrev cc2_scratch0 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg1_1 : Ref sig .tc := ⟨.vmem, 39, rfl⟩
abbrev cc3_stg2_0 : Ref sig .tc := ⟨.vmem, 40, rfl⟩
abbrev cc3_stg2_1 : Ref sig .tc := ⟨.vmem, 41, rfl⟩
abbrev cc3_stg3_0 : Ref sig .tc := ⟨.vmem, 42, rfl⟩
abbrev cc3_stg4_0 : Ref sig .tc := ⟨.vmem, 43, rfl⟩
abbrev cc3_stg5_0 : Ref sig .tc := ⟨.vmem, 44, rfl⟩
abbrev cc3_stg6_0 : Ref sig .tc := ⟨.vmem, 45, rfl⟩
abbrev cc3_stg6_1 : Ref sig .tc := ⟨.vmem, 46, rfl⟩
abbrev cc3_scratch0 : Ref sig .tc := ⟨.vmem, 47, rfl⟩
abbrev cc4_stg0_0 : Ref sig .tc := ⟨.vmem, 48, rfl⟩
abbrev cc4_stg0_1 : Ref sig .tc := ⟨.vmem, 49, rfl⟩
abbrev cc4_stg1_0 : Ref sig .tc := ⟨.vmem, 50, rfl⟩
abbrev cc4_stg1_1 : Ref sig .tc := ⟨.vmem, 51, rfl⟩
abbrev cc4_stg2_0 : Ref sig .tc := ⟨.vmem, 52, rfl⟩
abbrev cc4_stg2_1 : Ref sig .tc := ⟨.vmem, 53, rfl⟩
abbrev cc4_stg3_0 : Ref sig .tc := ⟨.vmem, 54, rfl⟩
abbrev cc4_stg4_0 : Ref sig .tc := ⟨.vmem, 55, rfl⟩
abbrev cc4_stg5_0 : Ref sig .tc := ⟨.vmem, 56, rfl⟩
abbrev cc4_stg6_0 : Ref sig .tc := ⟨.vmem, 57, rfl⟩
abbrev cc4_stg6_1 : Ref sig .tc := ⟨.vmem, 58, rfl⟩
abbrev cc4_scratch0 : Ref sig .tc := ⟨.vmem, 59, rfl⟩
abbrev cc5_stg0_0 : Ref sig .tc := ⟨.vmem, 60, rfl⟩
abbrev cc5_stg0_1 : Ref sig .tc := ⟨.vmem, 61, rfl⟩
abbrev cc5_stg1_0 : Ref sig .tc := ⟨.vmem, 62, rfl⟩
abbrev cc5_stg1_1 : Ref sig .tc := ⟨.vmem, 63, rfl⟩
abbrev cc5_stg2_0 : Ref sig .tc := ⟨.vmem, 64, rfl⟩
abbrev cc5_stg2_1 : Ref sig .tc := ⟨.vmem, 65, rfl⟩
abbrev cc5_stg3_0 : Ref sig .tc := ⟨.vmem, 66, rfl⟩
abbrev cc5_stg4_0 : Ref sig .tc := ⟨.vmem, 67, rfl⟩
abbrev cc5_stg5_0 : Ref sig .tc := ⟨.vmem, 68, rfl⟩
abbrev cc5_stg6_0 : Ref sig .tc := ⟨.vmem, 69, rfl⟩
abbrev cc5_stg6_1 : Ref sig .tc := ⟨.vmem, 70, rfl⟩
abbrev cc5_scratch0 : Ref sig .tc := ⟨.vmem, 71, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem2_1 : DmaSem sig := 38
abbrev cc3_sem3_0 : DmaSem sig := 39
abbrev cc3_sem4_0 : DmaSem sig := 40
abbrev cc3_sem5_0 : DmaSem sig := 41
abbrev cc3_sem6_0 : DmaSem sig := 42
abbrev cc3_sem6_1 : DmaSem sig := 43
abbrev cc4_sem0_0 : DmaSem sig := 44
abbrev cc4_sem0_1 : DmaSem sig := 45
abbrev cc4_sem1_0 : DmaSem sig := 46
abbrev cc4_sem1_1 : DmaSem sig := 47
abbrev cc4_sem2_0 : DmaSem sig := 48
abbrev cc4_sem2_1 : DmaSem sig := 49
abbrev cc4_sem3_0 : DmaSem sig := 50
abbrev cc4_sem4_0 : DmaSem sig := 51
abbrev cc4_sem5_0 : DmaSem sig := 52
abbrev cc4_sem6_0 : DmaSem sig := 53
abbrev cc4_sem6_1 : DmaSem sig := 54
abbrev cc5_sem0_0 : DmaSem sig := 55
abbrev cc5_sem0_1 : DmaSem sig := 56
abbrev cc5_sem1_0 : DmaSem sig := 57
abbrev cc5_sem1_1 : DmaSem sig := 58
abbrev cc5_sem2_0 : DmaSem sig := 59
abbrev cc5_sem2_1 : DmaSem sig := 60
abbrev cc5_sem3_0 : DmaSem sig := 61
abbrev cc5_sem4_0 : DmaSem sig := 62
abbrev cc5_sem5_0 : DmaSem sig := 63
abbrev cc5_sem6_0 : DmaSem sig := 64
abbrev cc5_sem6_1 : DmaSem sig := 65

abbrev nD : Nat := 1
abbrev τ : Topo := Topo.v7x

variable {F : FTy → Type} [FloatOps F]

abbrev grid0 : Pipeline.Grid := ⟨2, ![4, 32], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![v0.toNat, arg1.toNat, c0_i32_0.toNat, c0_i32_1.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

abbrev stage0_0 : Fin 2 → Memref sig .tc .vmem S1x26x4x32x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x32x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x27x1x4x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S27x256x128 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S27x256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![4, 32], ![false, false]⟩

def cc1_transform_0 (i : grid1.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc1_transform_1 (i : grid1.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  let c0_i32_1 : BitVec 32 := 0#32
  ![v0.toNat, arg1.toNat, c0_i32.toNat, c0_i32_0.toNat]

def cc1_transform_2 (i : grid1.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  ![v0.toNat, arg1.toNat, c0_i32.toNat]

abbrev stage1_0 : Fin 2 → Memref sig .tc .vmem S1x26x4x32x128 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x4x32x128 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x27x1x4x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S27x256x128 .fp8e4m3 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S27x256x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1x512x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev grid2 : Pipeline.Grid := ⟨2, ![4, 32], ![false, false]⟩

def cc2_transform_0 (i : grid2.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc2_transform_1 (i : grid2.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.addi arg0 c8_i32
  let c0_i32 : BitVec 32 := 0#32
  let c0_i32_0 : BitVec 32 := 0#32
  let c0_i32_1 : BitVec 32 := 0#32
  ![v0.toNat, arg1.toNat, c0_i32.toNat, c0_i32_0.toNat]

def cc2_transform_2 (i : grid2.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi arg0 c8_i32
  let c0_i32 : BitVec 32 := 0#32
  let c0_i32_0 : BitVec 32 := 0#32
  ![v0.toNat, arg1.toNat, c0_i32.toNat]

abbrev stage2_0 : Fin 2 → Memref sig .tc .vmem S1x26x4x32x128 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x4x32x128 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x27x1x4x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 1 → Memref sig .tc .vmem S27x256x128 .fp8e4m3 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S27x256x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S1x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 2 → Memref sig .tc .vmem S1x512x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

abbrev grid3 : Pipeline.Grid := ⟨2, ![4, 32], ![false, false]⟩

def cc3_transform_0 (i : grid3.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc3_transform_1 (i : grid3.Coords) : Fin 4 → Nat :=
  let arg0 : BitVec 32 := BitVec.ofNat 32 (i 0).val
  let arg1 : BitVec 32 := BitVec.ofNat 32 (i 1).val
  let c12_i32 : BitVec 32 := 12#32
  let v0 : BitVec 32 := Scalar.addi arg0 c12_i32
  let c0_i32 : BitVec 32 := 0#32
  let c0_i32_0 : BitVec 32 := 0#32
  let c0_i32_1 : BitVec 32 := 0#32
  ![v0.toNat, arg1.toNat, c0_i32.toNat, c0_i32_0.toNat]

def cc3_transform_2 (i : grid3.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_4 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi arg0 c12_i32
  let c0_i32 : BitVec 32 := 0#32
  let c0_i32_0 : BitVec 32 := 0#32
  ![v0.toNat, arg1.toNat, c0_i32.toNat]

abbrev stage3_0 : Fin 2 → Memref sig .tc .vmem S1x26x4x32x128 .i32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x4x32x128 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S1x27x1x4x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 1 → Memref sig .tc .vmem S27x256x128 .fp8e4m3 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 1 → Memref sig .tc .vmem S27x256x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 1 → Memref sig .tc .vmem S1x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false, false]

abbrev stage3_6 : Fin 2 → Memref sig .tc .vmem S1x512x256 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, true]

abbrev grid4 : Pipeline.Grid := ⟨2, ![4, 32], ![false, false]⟩

def cc4_transform_0 (i : grid4.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc4_transform_1 (i : grid4.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.addi arg0 c16_i32
  let c0_i32 : BitVec 32 := 0#32
  let c0_i32_0 : BitVec 32 := 0#32
  let c0_i32_1 : BitVec 32 := 0#32
  ![v0.toNat, arg1.toNat, c0_i32.toNat, c0_i32_0.toNat]

def cc4_transform_2 (i : grid4.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc4_transform_3 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc4_transform_4 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc4_transform_5 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi arg0 c16_i32
  let c0_i32 : BitVec 32 := 0#32
  let c0_i32_0 : BitVec 32 := 0#32
  ![v0.toNat, arg1.toNat, c0_i32.toNat]

abbrev stage4_0 : Fin 2 → Memref sig .tc .vmem S1x26x4x32x128 .i32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S1x4x32x128 .i32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, true]

abbrev stage4_2 : Fin 2 → Memref sig .tc .vmem S1x27x1x4x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev stage4_3 : Fin 1 → Memref sig .tc .vmem S27x256x128 .fp8e4m3 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false, false]

abbrev stage4_4 : Fin 1 → Memref sig .tc .vmem S27x256x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false, false]

abbrev stage4_5 : Fin 1 → Memref sig .tc .vmem S1x256 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false, false]

abbrev stage4_6 : Fin 2 → Memref sig .tc .vmem S1x512x256 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true, true]

abbrev grid5 : Pipeline.Grid := ⟨2, ![4, 32], ![false, false]⟩

def cc5_transform_0 (i : grid5.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc5_transform_1 (i : grid5.Coords) : Fin 4 → Nat :=
  let arg0 : BitVec 32 := BitVec.ofNat 32 (i 0).val
  let arg1 : BitVec 32 := BitVec.ofNat 32 (i 1).val
  let c20_i32 : BitVec 32 := 20#32
  let v0 : BitVec 32 := Scalar.addi arg0 c20_i32
  let c0_i32 : BitVec 32 := 0#32
  let c0_i32_0 : BitVec 32 := 0#32
  let c0_i32_1 : BitVec 32 := 0#32
  ![v0.toNat, arg1.toNat, c0_i32.toNat, c0_i32_0.toNat]

def cc5_transform_2 (i : grid5.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc5_transform_3 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc5_transform_4 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc5_transform_5 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 3 → Nat :=
  let arg0 : BitVec 32 := BitVec.ofNat 32 (i 0).val
  let arg1 : BitVec 32 := BitVec.ofNat 32 (i 1).val
  let c20_i32 : BitVec 32 := 20#32
  let v0 : BitVec 32 := Scalar.addi arg0 c20_i32
  let c0_i32 : BitVec 32 := 0#32
  let c0_i32_0 : BitVec 32 := 0#32
  ![v0.toNat, arg1.toNat, c0_i32.toNat]

abbrev stage5_0 : Fin 2 → Memref sig .tc .vmem S1x26x4x32x128 .i32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S1x4x32x128 .i32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, true]

abbrev stage5_2 : Fin 2 → Memref sig .tc .vmem S1x27x1x4x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev stage5_3 : Fin 1 → Memref sig .tc .vmem S27x256x128 .fp8e4m3 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false, false]

abbrev stage5_4 : Fin 1 → Memref sig .tc .vmem S27x256x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false, false]

abbrev stage5_5 : Fin 1 → Memref sig .tc .vmem S1x256 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false, false]

abbrev stage5_6 : Fin 2 → Memref sig .tc .vmem S1x512x256 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true, true]
-- ==== ReferenceIdeal.lean ====
abbrev S24x128x32x128 : Shape := ⟨4, ![24, 128, 32, 128]⟩
abbrev S27x128x256 : Shape := ⟨3, ![27, 128, 256]⟩
abbrev S27x256 : Shape := ⟨2, ![27, 256]⟩
abbrev S256 : Shape := ⟨1, ![256]⟩
abbrev S4x26x128x32x128 : Shape := ⟨5, ![4, 26, 128, 32, 128]⟩
abbrev S4x27x16384 : Shape := ⟨3, ![4, 27, 16384]⟩
abbrev S24x26x128x32x128 : Shape := ⟨5, ![24, 26, 128, 32, 128]⟩
abbrev S24x27x16384 : Shape := ⟨3, ![24, 27, 16384]⟩
abbrev S24x13x128x32x128 : Shape := ⟨5, ![24, 13, 128, 32, 128]⟩
abbrev S24x1x128x32x128 : Shape := ⟨5, ![24, 1, 128, 32, 128]⟩
abbrev S24x27x128x32x128 : Shape := ⟨5, ![24, 27, 128, 32, 128]⟩
abbrev S27x24x128x128x32 : Shape := ⟨5, ![27, 24, 128, 128, 32]⟩
abbrev S27x393216x32 : Shape := ⟨3, ![27, 393216, 32]⟩
abbrev S27x24x16384 : Shape := ⟨3, ![27, 24, 16384]⟩
abbrev S27x393216 : Shape := ⟨2, ![27, 393216]⟩
abbrev S_ : Shape := ⟨0, ![]⟩
abbrev S27x393216x32x1 : Shape := ⟨4, ![27, 393216, 32, 1]⟩
abbrev S27x393216x32x4 : Shape := ⟨4, ![27, 393216, 32, 4]⟩
abbrev S27x393216x128 : Shape := ⟨3, ![27, 393216, 128]⟩
abbrev S24x16384x256 : Shape := ⟨3, ![24, 16384, 256]⟩
abbrev S27x393216x256 : Shape := ⟨3, ![27, 393216, 256]⟩
abbrev S27x393216x1 : Shape := ⟨3, ![27, 393216, 1]⟩
abbrev S27x1x256 : Shape := ⟨3, ![27, 1, 256]⟩
abbrev S393216x256 : Shape := ⟨2, ![393216, 256]⟩
abbrev S1x256 : Shape := ⟨2, ![1, 256]⟩

abbrev nBuf : Space → Nat
  | .hbm => 58
  | .vmem => 6
  | .smem => 0
  | _ => 0

abbrev bufTy : (tb : Table) → Fin (tcTables nBuf tb) → BufTy
  | .hbm, ⟨0, _⟩ => ⟨S24x128x32x128, .i32⟩
  | .hbm, ⟨1, _⟩ => ⟨S27x128x256, .fp8e4m3⟩
  | .hbm, ⟨2, _⟩ => ⟨S27x256, .f32⟩
  | .hbm, ⟨3, _⟩ => ⟨S256, .f32⟩
  | .hbm, ⟨4, _⟩ => ⟨S4x26x128x32x128, .i32⟩
  | .hbm, ⟨5, _⟩ => ⟨S4x27x16384, .f32⟩
  | .hbm, ⟨6, _⟩ => ⟨S4x26x128x32x128, .i32⟩
  | .hbm, ⟨7, _⟩ => ⟨S4x27x16384, .f32⟩
  | .hbm, ⟨8, _⟩ => ⟨S4x26x128x32x128, .i32⟩
  | .hbm, ⟨9, _⟩ => ⟨S4x27x16384, .f32⟩
  | .hbm, ⟨10, _⟩ => ⟨S4x26x128x32x128, .i32⟩
  | .hbm, ⟨11, _⟩ => ⟨S4x27x16384, .f32⟩
  | .hbm, ⟨12, _⟩ => ⟨S4x26x128x32x128, .i32⟩
  | .hbm, ⟨13, _⟩ => ⟨S4x27x16384, .f32⟩
  | .hbm, ⟨14, _⟩ => ⟨S4x26x128x32x128, .i32⟩
  | .hbm, ⟨15, _⟩ => ⟨S4x27x16384, .f32⟩
  | .hbm, ⟨16, _⟩ => ⟨S24x26x128x32x128, .i32⟩
  | .hbm, ⟨17, _⟩ => ⟨S24x27x16384, .f32⟩
  | .hbm, ⟨18, _⟩ => ⟨S24x13x128x32x128, .i32⟩
  | .hbm, ⟨19, _⟩ => ⟨S24x1x128x32x128, .i32⟩
  | .hbm, ⟨20, _⟩ => ⟨S24x13x128x32x128, .i32⟩
  | .hbm, ⟨21, _⟩ => ⟨S24x27x128x32x128, .i32⟩
  | .hbm, ⟨22, _⟩ => ⟨S27x24x128x128x32, .i32⟩
  | .hbm, ⟨23, _⟩ => ⟨S27x393216x32, .i32⟩
  | .hbm, ⟨24, _⟩ => ⟨S27x24x16384, .f32⟩
  | .hbm, ⟨25, _⟩ => ⟨S27x393216, .f32⟩
  | .hbm, ⟨26, _⟩ => ⟨S_, .i32⟩
  | .hbm, ⟨27, _⟩ => ⟨S27x393216x32, .i32⟩
  | .hbm, ⟨28, _⟩ => ⟨S27x393216x32, .i32⟩
  | .hbm, ⟨29, _⟩ => ⟨S_, .i32⟩
  | .hbm, ⟨30, _⟩ => ⟨S27x393216x32, .i32⟩
  | .hbm, ⟨31, _⟩ => ⟨S27x393216x32, .i32⟩
  | .hbm, ⟨32, _⟩ => ⟨S_, .i32⟩
  | .hbm, ⟨33, _⟩ => ⟨S27x393216x32, .i32⟩
  | .hbm, ⟨34, _⟩ => ⟨S27x393216x32, .i32⟩
  | .hbm, ⟨35, _⟩ => ⟨S_, .i32⟩
  | .hbm, ⟨36, _⟩ => ⟨S27x393216x32, .i32⟩
  | .hbm, ⟨37, _⟩ => ⟨S27x393216x32, .i32⟩
  | .hbm, ⟨38, _⟩ => ⟨S_, .i32⟩
  | .hbm, ⟨39, _⟩ => ⟨S27x393216x32, .i32⟩
  | .hbm, ⟨40, _⟩ => ⟨S27x393216x32, .i32⟩
  | .hbm, ⟨41, _⟩ => ⟨S_, .i32⟩
  | .hbm, ⟨42, _⟩ => ⟨S27x393216x32, .i32⟩
  | .hbm, ⟨43, _⟩ => ⟨S27x393216x32, .i32⟩
  | .hbm, ⟨44, _⟩ => ⟨S_, .i32⟩
  | .hbm, ⟨45, _⟩ => ⟨S27x393216x32, .i32⟩
  | .hbm, ⟨46, _⟩ => ⟨S27x393216x32, .i32⟩
  | .hbm, ⟨47, _⟩ => ⟨S_, .i32⟩
  | .hbm, ⟨48, _⟩ => ⟨S27x393216x32, .i32⟩
  | .hbm, ⟨49, _⟩ => ⟨S27x393216x32, .i32⟩
  | .hbm, ⟨50, _⟩ => ⟨S27x393216x32x1, .i32⟩
  | .hbm, ⟨51, _⟩ => ⟨S27x393216x32x1, .i32⟩
  | .hbm, ⟨52, _⟩ => ⟨S27x393216x32x1, .i32⟩
  | .hbm, ⟨53, _⟩ => ⟨S27x393216x32x1, .i32⟩
  | .hbm, ⟨54, _⟩ => ⟨S27x393216x32x4, .i32⟩
  | .hbm, ⟨55, _⟩ => ⟨S27x393216x128, .i32⟩
  | .hbm, ⟨56, _⟩ => ⟨S27x393216x128, .i8⟩
  | .hbm, ⟨57, _⟩ => ⟨S24x16384x256, .f32⟩
  | .local _ .vmem, ⟨0, _⟩ => ⟨S27x393216x128, .i8⟩
  | .local _ .vmem, ⟨1, _⟩ => ⟨S27x393216, .f32⟩
  | .local _ .vmem, ⟨2, _⟩ => ⟨S27x128x256, .fp8e4m3⟩
  | .local _ .vmem, ⟨3, _⟩ => ⟨S27x256, .f32⟩
  | .local _ .vmem, ⟨4, _⟩ => ⟨S256, .f32⟩
  | .local _ .vmem, ⟨5, _⟩ => ⟨S24x16384x256, .f32⟩
  | _, _ => ⟨S24x128x32x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_c : Ref sig .tc := ⟨.hbm, 26, rfl⟩
abbrev main_v10 : Ref sig .tc := ⟨.hbm, 27, rfl⟩
abbrev main_v11 : Ref sig .tc := ⟨.hbm, 28, rfl⟩
abbrev main_c_0 : Ref sig .tc := ⟨.hbm, 29, rfl⟩
abbrev main_v12 : Ref sig .tc := ⟨.hbm, 30, rfl⟩
abbrev main_v13 : Ref sig .tc := ⟨.hbm, 31, rfl⟩
abbrev main_c_1 : Ref sig .tc := ⟨.hbm, 32, rfl⟩
abbrev main_v14 : Ref sig .tc := ⟨.hbm, 33, rfl⟩
abbrev main_v15 : Ref sig .tc := ⟨.hbm, 34, rfl⟩
abbrev main_c_2 : Ref sig .tc := ⟨.hbm, 35, rfl⟩
abbrev main_v16 : Ref sig .tc := ⟨.hbm, 36, rfl⟩
abbrev main_v17 : Ref sig .tc := ⟨.hbm, 37, rfl⟩
abbrev main_c_3 : Ref sig .tc := ⟨.hbm, 38, rfl⟩
abbrev main_v18 : Ref sig .tc := ⟨.hbm, 39, rfl⟩
abbrev main_v19 : Ref sig .tc := ⟨.hbm, 40, rfl⟩
abbrev main_c_4 : Ref sig .tc := ⟨.hbm, 41, rfl⟩
abbrev main_v20 : Ref sig .tc := ⟨.hbm, 42, rfl⟩
abbrev main_v21 : Ref sig .tc := ⟨.hbm, 43, rfl⟩
abbrev main_c_5 : Ref sig .tc := ⟨.hbm, 44, rfl⟩
abbrev main_v22 : Ref sig .tc := ⟨.hbm, 45, rfl⟩
abbrev main_v23 : Ref sig .tc := ⟨.hbm, 46, rfl⟩
abbrev main_c_6 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S27x393216x128 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S27x393216 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S27x128x256 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S27x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S24x16384x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Run.lean ====
/- The run of the six calls with the result array named. -/
module

public import proofs.«01_k».proof.Proof.Gen.KernelIdeal.Frame

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the implicit arguments are found by unifying conclusions, which takes unfolding plain definitions in a metavariable's type
set_option backward.isDefEq.respectTransparency.types false in
/-- From any memory with zero counters the program terminates without fault, its result array holds the contents that
    the fold over the calls ends with, and its arguments are as launched. -/
theorem run : θ_run defs (onTc (τ := τ) (main (F := F))) ⟨m, fun _ => 0, ρ⟩ (fun r => ∀ c : Dev nD,
      r.2.mem ((c.tc : Thread nD τ).loc main_v20) = W12 m ρ c (Proc.devRef .tc main_v20)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h _ => fun c =>
      ⟨h c _ (mem_uc main_v20 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c),
       (h c _ (mem_uc main_arg13 (by decide))).trans (W12_main_arg13 m ρ c),
       (h c _ (mem_uc main_arg14 (by decide))).trans (W12_main_arg14 m ρ c),
       (h c _ (mem_uc main_arg15 (by decide))).trans (W12_main_arg15 m ρ c)⟩)

end Cert.KernelIdeal.Gen

end
-- ==== Proof.Pieces.lean ====
/- What one grid point of the convolution kernel stores, in one vocabulary for all six calls.

   The kernel body is straight-line: for each half of the block and each of the 27 offsets it multiplies
   the offset's weights with the codes of 256 positions and adds the scaled product into a scratch
   accumulator, lane half by lane half. `Lists` is the list of stores into the accumulator by recursion on the offset. -/
module

public import proofs.«01_k».proof.Proof.Gen.KernelIdeal
public import Idealize.ShloMosaic.Lib.Pipeline.FrameBody
public import Idealize.ShloMosaic.Lib.Pipeline.ReadBack
public import Idealize.ShloMosaic.Lib.Tactic

@[expose] public section

set_option maxRecDepth 16384

noncomputable section

namespace Cert.KernelIdeal.Gen.Conv

open Idealize.ShloMosaic Cert.KernelIdeal

variable {F : FTy → Type} [FloatOps F]

/-- The codes of 128 positions, one column each, from their words. -/
def unpack (v : IVec S32x128 32) : FVec F S128x128 .fp8e4m3 :=
  bitcastToFloat .fp8e4m3 (bitcast S128x128 8 v bitcasts_S32x128_w32_S128x128_w8)

/-- The codes of 256 positions, from the words of two groups of 128. -/
def codes (a b : IVec S32x128 32) : FVec F S128x256 .fp8e4m3 :=
  concatenate S128x256 1 [⟨S128x128, unpack a⟩, ⟨S128x128, unpack b⟩] concatenates_S128x128_S128x128_S128x256_d1

/-- One offset's product: its weights against the codes of 256 positions. -/
def product (w : Vec F S1x256x128 .fp8e4m3) (c : FVec F S128x256 .fp8e4m3) : FVec F S256x256 .f32 :=
  matmul dot_S256x128_S128x256_S256x256_1_0_0_1_n_n none (shapeCast S256x128 w shapeCasts_S1x256x128_S256x128) c
    (constant S256x256 .f32 0x00000000#32)

/-- A lane half of the product times the positions' scales and the weights' scales. -/
def scaled (p : FVec F S256x128 .f32) (s : Vec F S1x1x1x1x128 .f32) (ws : Vec F S1x256x128 .f32) : FVec F S256x128 .f32 :=
  mulf (mulf p (broadcastTo S256x128 (shapeCast S1x128 s shapeCasts_S1x1x1x1x128_S1x128) broadcasts_S1x128_S256x128))
    (shapeCast S256x128 ws shapeCasts_S1x256x128_S256x128)

/-- The first lane half of a product. -/
def half0 (p : FVec F S256x256 .f32) : FVec F S256x128 .f32 := extractStridedSlice S256x128 ![0, 0] p slices_S256x256_o0_0_S256x128

/-- The second lane half of a product. -/
def half1 (p : FVec F S256x256 .f32) : FVec F S256x128 .f32 := extractStridedSlice S256x128 ![0, 128] p slices_S256x256_o0_128_S256x128

/-- What is stored of a lane half: its value in the stored shape. -/
def stored (x : FVec F S256x128 .f32) : FVec F S256x128 .f32 := shapeCast S256x128 x shapeCasts_S256x128_S256x128

/-- What is stored of the output: the accumulator transposed, plus the bias. -/
def outv (a : Vec F S256x256 .f32) (b : Vec F S1x256 .f32) : FVec F S1x256x256 .f32 :=
  shapeCast S1x256x256 (addf (transpose S256x256 [1, 0] a transposes_S256x256_p1_0_S256x256)
    (broadcastTo S256x256 (shapeCast S1x256 b shapeCasts_S1x256_S1x256) broadcasts_S1x256_S256x256)) shapeCasts_S256x256_S1x256x256

/-- The accumulator's first lane half. -/
def rect0 : Rect S256x256 := Rect.unit (s := S256x256) ![0, 0] S256x128.size inb_S256x256_S256x128_0_0
/-- The accumulator's second lane half. -/
def rect1 : Rect S256x256 := Rect.unit (s := S256x256) ![0, 128] S256x128.size inb_S256x256_S256x128_0_128
/-- The whole accumulator. -/
def rectA : Rect S256x256 := Rect.unit (s := S256x256) ![0, 0] S256x256.size inb_S256x256_S256x256_0_0

/-- The stores into the accumulator up to offset `k`, the last first, over the stores `base` made before: at offset 0 the
    scaled products, after it each lane half's content plus the scaled product. -/
def Lists {κ : Kind} {sp : Space} (v : View sig κ sp S256x256 .f32) (t0 t1 : (k : ℕ) → k < 27 → FVec F S256x128 .f32)
    (base : List (View.Piece (Elt F) S256x256 .f32)) : (k : ℕ) → k < 27 → List (View.Piece (Elt F) S256x256 .f32)
  | 0, h => ⟨rect1, stored (t1 0 h)⟩ :: ⟨rect0, stored (t0 0 h)⟩ :: base
  | k + 1, h =>
    ⟨rect1, stored (addf (v.readCov (⟨rect0, stored (addf (v.readCov (Lists v t0 t1 base k (by omega)) rect0.toLoadRect) (t0 (k + 1) h))⟩ ::
        Lists v t0 t1 base k (by omega)) rect1.toLoadRect) (t1 (k + 1) h))⟩ ::
      ⟨rect0, stored (addf (v.readCov (Lists v t0 t1 base k (by omega)) rect0.toLoadRect) (t0 (k + 1) h))⟩ ::
        Lists v t0 t1 base k (by omega)

section Loads

variable (arg2 : Memref sig .tc .vmem S1x26x4x32x128 .i32) (harg2 : arg2.IsWhole) (arg3 : Memref sig .tc .vmem S1x4x32x128 .i32) (harg3 : arg3.IsWhole)
  (arg4 : Memref sig .tc .vmem S1x27x1x4x128 .f32) (harg4 : arg4.IsWhole) (arg5 : Memref sig .tc .vmem S27x256x128 .fp8e4m3) (harg5 : arg5.IsWhole)
  (arg6 : Memref sig .tc .vmem S27x256x128 .f32) (harg6 : arg6.IsWhole) (arg7 : Memref sig .tc .vmem S1x256 .f32) (harg7 : arg7.IsWhole)
  (arg9 : Memref sig .tc .vmem S256x256 .f32)
  (x0 : Vec F S1x26x4x32x128 .i32) (x1 : Vec F S1x4x32x128 .i32) (x2 : Vec F S1x27x1x4x128 .f32) (x3 : Vec F S27x256x128 .fp8e4m3)
  (x4 : Vec F S27x256x128 .f32) (x5 : Vec F S1x256 .f32)

/-- The window of group `g` of gathered offset `k` fits. -/
theorem inbG {k g : ℕ} (hk : k < 26) (hg : g < 4) : ∀ a, (![0, k, g, 0, 0] : Fin 5 → ℕ) a + S1x1x1x32x128.size a ≤ S1x26x4x32x128.size a := by
  intro a; fin_cases a <;> simp [S1x1x1x32x128, S1x26x4x32x128] <;> omega
/-- The window of group `g` of the centre fits. -/
theorem inbX {g : ℕ} (hg : g < 4) : ∀ a, (![0, g, 0, 0] : Fin 4 → ℕ) a + S1x1x32x128.size a ≤ S1x4x32x128.size a := by
  intro a; fin_cases a <;> simp [S1x1x32x128, S1x4x32x128] <;> omega
/-- The window of the scales of group `g` of offset `k` fits. -/
theorem inbS {k g : ℕ} (hk : k < 27) (hg : g < 4) : ∀ a, (![0, k, 0, g, 0] : Fin 5 → ℕ) a + S1x1x1x1x128.size a ≤ S1x27x1x4x128.size a := by
  intro a; fin_cases a <;> simp [S1x1x1x1x128, S1x27x1x4x128] <;> omega
/-- The window of offset `k`'s weights fits. -/
theorem inbW {k : ℕ} (hk : k < 27) : ∀ a, (![k, 0, 0] : Fin 3 → ℕ) a + S1x256x128.size a ≤ S27x256x128.size a := by
  intro a; fin_cases a <;> simp [S1x256x128, S27x256x128] <;> omega

/-- The words of group `g` at offset `k`: gathered ones, at the centre the scene's own. -/
def wordsAt (g : ℕ) (hg : g < 4) (k : ℕ) (hk : k < 27) : IVec S32x128 32 :=
  if h : k < 13 then shapeCast S32x128 (View.readAt (Elt F) arg2.view (Rect.unit (s := S1x26x4x32x128) ![0, k, g, 0, 0] S1x1x1x32x128.size (inbG (by omega) hg)).toLoadRect (harg2.unread x0)) shapeCasts_S1x1x1x32x128_S32x128
  else if h' : k = 13 then shapeCast S32x128 (View.readAt (Elt F) arg3.view (Rect.unit (s := S1x4x32x128) ![0, g, 0, 0] S1x1x32x128.size (inbX hg)).toLoadRect (harg3.unread x1)) shapeCasts_S1x1x32x128_S32x128
  else shapeCast S32x128 (View.readAt (Elt F) arg2.view (Rect.unit (s := S1x26x4x32x128) ![0, k - 1, g, 0, 0] S1x1x1x32x128.size (inbG (by omega) hg)).toLoadRect (harg2.unread x0)) shapeCasts_S1x1x1x32x128_S32x128

/-- Offset `k`'s product at half `h` of the block. -/
def prodAt (h : ℕ) (hh : h < 2) (k : ℕ) (hk : k < 27) : FVec F S256x256 .f32 :=
  product (View.readAt (Elt F) arg5.view (Rect.unit (s := S27x256x128) ![k, 0, 0] S1x256x128.size (inbW hk)).toLoadRect (harg5.unread x3))
    (codes (wordsAt arg2 harg2 arg3 harg3 x0 x1 (2 * h) (by omega) k hk) (wordsAt arg2 harg2 arg3 harg3 x0 x1 (2 * h + 1) (by omega) k hk))

/-- Offset `k`'s scaled product at the first lane half of half `h`. -/
def term0 (h : ℕ) (hh : h < 2) (k : ℕ) (hk : k < 27) : FVec F S256x128 .f32 :=
  scaled (half0 (prodAt arg2 harg2 arg3 harg3 arg5 harg5 x0 x1 x3 h hh k hk))
    (View.readAt (Elt F) arg4.view (Rect.unit (s := S1x27x1x4x128) ![0, k, 0, 2 * h, 0] S1x1x1x1x128.size (inbS hk (by omega))).toLoadRect (harg4.unread x2))
    (View.readAt (Elt F) arg6.view (Rect.unit (s := S27x256x128) ![k, 0, 0] S1x256x128.size (inbW hk)).toLoadRect (harg6.unread x4))

/-- Offset `k`'s scaled product at the second lane half of half `h`. -/
def term1 (h : ℕ) (hh : h < 2) (k : ℕ) (hk : k < 27) : FVec F S256x128 .f32 :=
  scaled (half1 (prodAt arg2 harg2 arg3 harg3 arg5 harg5 x0 x1 x3 h hh k hk))
    (View.readAt (Elt F) arg4.view (Rect.unit (s := S1x27x1x4x128) ![0, k, 0, 2 * h + 1, 0] S1x1x1x1x128.size (inbS hk (by omega))).toLoadRect (harg4.unread x2))
    (View.readAt (Elt F) arg6.view (Rect.unit (s := S27x256x128) ![k, 0, 0] S1x256x128.size (inbW hk)).toLoadRect (harg6.unread x4))

/-- The stores into the accumulator over half `h`, made over the stores `base`. -/
def halfList (h : ℕ) (hh : h < 2) (base : List (View.Piece (Elt F) S256x256 .f32)) (k : ℕ) (hk : k < 27) : List (View.Piece (Elt F) S256x256 .f32) :=
  Lists arg9.view (term0 arg2 harg2 arg3 harg3 arg4 harg4 arg5 harg5 arg6 harg6 x0 x1 x2 x3 x4 h hh)
    (term1 arg2 harg2 arg3 harg3 arg4 harg4 arg5 harg5 arg6 harg6 x0 x1 x2 x3 x4 h hh) base k hk

/-- The bias as the body loads it. -/
def biasv : Vec F S1x256 .f32 := View.readAt (Elt F) arg7.view (Rect.unit (s := S1x256) ![0, 0] S1x256.size inb_S1x256_S1x256_0_0).toLoadRect (harg7.unread x5)

/-- The two stores into the output block, the last first. -/
def outPieces : List (View.Piece (Elt F) S1x512x256 .f32) :=
  let l0 := halfList arg2 harg2 arg3 harg3 arg4 harg4 arg5 harg5 arg6 harg6 arg9 x0 x1 x2 x3 x4 0 (by omega) [] 26 (by omega)
  [⟨Rect.unit (s := S1x512x256) ![0, 256, 0] S1x256x256.size inb_S1x512x256_S1x256x256_0_256_0,
      outv (arg9.view.readCov (halfList arg2 harg2 arg3 harg3 arg4 harg4 arg5 harg5 arg6 harg6 arg9 x0 x1 x2 x3 x4 1 (by omega) l0 26 (by omega)) rectA.toLoadRect)
        (biasv arg7 harg7 x5)⟩,
   ⟨Rect.unit (s := S1x512x256) ![0, 0, 0] S1x256x256.size inb_S1x512x256_S1x256x256_0_0_0, outv (arg9.view.readCov l0 rectA.toLoadRect) (biasv arg7 harg7 x5)⟩]

end Loads

end Cert.KernelIdeal.Gen.Conv

end
-- ==== Proof.Runs.lean ====
/- The stores of one grid point of each of the six convolution calls are `Conv.outPieces` of its input blocks. -/
module

public import proofs.«01_k».proof.Proof.Gen.KernelIdeal.Frame.Region0
public import proofs.«01_k».proof.Proof.Gen.KernelIdeal.Frame.Region1
public import proofs.«01_k».proof.Proof.Gen.KernelIdeal.Frame.Region2
public import proofs.«01_k».proof.Proof.Gen.KernelIdeal.Frame.Region3
public import proofs.«01_k».proof.Proof.Gen.KernelIdeal.Frame.Region4
public import proofs.«01_k».proof.Proof.Gen.KernelIdeal.Frame.Region5
public import proofs.«01_k».proof.Proof.Pieces

@[expose] public section

set_option maxRecDepth 16384

noncomputable section

namespace Cert.KernelIdeal.Gen

open Idealize.ShloMosaic Cert.KernelIdeal

variable {F : FTy → Type} [FloatOps F]

/-- The stores of a grid point of call 0. -/
theorem run0_pieces (c : Dev nD) (i : grid0.Coords) (arg2 : Memref sig .tc .vmem S1x26x4x32x128 .i32) (harg2 : arg2.IsWhole) (arg3 : Memref sig .tc .vmem S1x4x32x128 .i32) (harg3 : arg3.IsWhole)
    (arg4 : Memref sig .tc .vmem S1x27x1x4x128 .f32) (harg4 : arg4.IsWhole) (arg5 : Memref sig .tc .vmem S27x256x128 .fp8e4m3) (harg5 : arg5.IsWhole)
    (arg6 : Memref sig .tc .vmem S27x256x128 .f32) (harg6 : arg6.IsWhole) (arg7 : Memref sig .tc .vmem S1x256 .f32) (harg7 : arg7.IsWhole)
    (arg8 : Memref sig .tc .vmem S1x512x256 .f32) (harg8 : arg8.IsWhole) (arg9 : Memref sig .tc .vmem S256x256 .f32) (harg9 : arg9.IsWhole)
    (x0 : Vec F S1x26x4x32x128 .i32) (x1 : Vec F S1x4x32x128 .i32) (x2 : Vec F S1x27x1x4x128 .f32) (x3 : Vec F S27x256x128 .fp8e4m3)
    (x4 : Vec F S27x256x128 .f32) (x5 : Vec F S1x256 .f32) :
    (kernelRun0_A (F := F) c i arg2 harg2 arg3 harg3 arg4 harg4 arg5 harg5 arg6 harg6 arg7 harg7 arg8 harg8 arg9 harg9 x0 x1 x2 x3 x4 x5).1
      = Conv.outPieces arg2 harg2 arg3 harg3 arg4 harg4 arg5 harg5 arg6 harg6 arg7 harg7 arg9 x0 x1 x2 x3 x4 x5 := by
  unfold kernelRun0_A
  dsimp only
  sl_kernel_rfl

/-- The output block of a grid point of call 0. -/
theorem out0_canon (c : Dev nD) (i : grid0.Coords) (arg2 : Memref sig .tc .vmem S1x26x4x32x128 .i32) (harg2 : arg2.IsWhole) (arg3 : Memref sig .tc .vmem S1x4x32x128 .i32) (harg3 : arg3.IsWhole)
    (arg4 : Memref sig .tc .vmem S1x27x1x4x128 .f32) (harg4 : arg4.IsWhole) (arg5 : Memref sig .tc .vmem S27x256x128 .fp8e4m3) (harg5 : arg5.IsWhole)
    (arg6 : Memref sig .tc .vmem S27x256x128 .f32) (harg6 : arg6.IsWhole) (arg7 : Memref sig .tc .vmem S1x256 .f32) (harg7 : arg7.IsWhole)
    (arg8 : Memref sig .tc .vmem S1x512x256 .f32) (harg8 : arg8.IsWhole) (arg9 : Memref sig .tc .vmem S256x256 .f32) (harg9 : arg9.IsWhole)
    (x0 : Vec F S1x26x4x32x128 .i32) (x1 : Vec F S1x4x32x128 .i32) (x2 : Vec F S1x27x1x4x128 .f32) (x3 : Vec F S27x256x128 .fp8e4m3)
    (x4 : Vec F S27x256x128 .f32) (x5 : Vec F S1x256 .f32) :
    out0_A_6 (F := F) c i arg2 harg2 arg3 harg3 arg4 harg4 arg5 harg5 arg6 harg6 arg7 harg7 arg8 harg8 arg9 harg9 x0 x1 x2 x3 x4 x5
      = View.canon (Conv.outPieces arg2 harg2 arg3 harg3 arg4 harg4 arg5 harg5 arg6 harg6 arg7 harg7 arg9 x0 x1 x2 x3 x4 x5) := by
  unfold out0_A_6
  rw [View.read_writes_junk_eq_canon, run0_pieces]

/-- The stores of a grid point of call 1. -/
theorem run1_pieces (c : Dev nD) (i : grid1.Coords) (arg2 : Memref sig .tc .vmem S1x26x4x32x128 .i32) (harg2 : arg2.IsWhole) (arg3 : Memref sig .tc .vmem S1x4x32x128 .i32) (harg3 : arg3.IsWhole)
    (arg4 : Memref sig .tc .vmem S1x27x1x4x128 .f32) (harg4 : arg4.IsWhole) (arg5 : Memref sig .tc .vmem S27x256x128 .fp8e4m3) (harg5 : arg5.IsWhole)
    (arg6 : Memref sig .tc .vmem S27x256x128 .f32) (harg6 : arg6.IsWhole) (arg7 : Memref sig .tc .vmem S1x256 .f32) (harg7 : arg7.IsWhole)
    (arg8 : Memref sig .tc .vmem S1x512x256 .f32) (harg8 : arg8.IsWhole) (arg9 : Memref sig .tc .vmem S256x256 .f32) (harg9 : arg9.IsWhole)
    (x0 : Vec F S1x26x4x32x128 .i32) (x1 : Vec F S1x4x32x128 .i32) (x2 : Vec F S1x27x1x4x128 .f32) (x3 : Vec F S27x256x128 .fp8e4m3)
    (x4 : Vec F S27x256x128 .f32) (x5 : Vec F S1x256 .f32) :
    (kernelRun1_A (F := F) c i arg2 harg2 arg3 harg3 arg4 harg4 arg5 harg5 arg6 harg6 arg7 harg7 arg8 harg8 arg9 harg9 x0 x1 x2 x3 x4 x5).1
      = Conv.outPieces arg2 harg2 arg3 harg3 arg4 harg4 arg5 harg5 arg6 harg6 arg7 harg7 arg9 x0 x1 x2 x3 x4 x5 := by
  unfold kernelRun1_A
  dsimp only
  sl_kernel_rfl

/-- The output block of a grid point of call 1. -/
theorem out1_canon (c : Dev nD) (i : grid1.Coords) (arg2 : Memref sig .tc .vmem S1x26x4x32x128 .i32) (harg2 : arg2.IsWhole) (arg3 : Memref sig .tc .vmem S1x4x32x128 .i32) (harg3 : arg3.IsWhole)
    (arg4 : Memref sig .tc .vmem S1x27x1x4x128 .f32) (harg4 : arg4.IsWhole) (arg5 : Memref sig .tc .vmem S27x256x128 .fp8e4m3) (harg5 : arg5.IsWhole)
    (arg6 : Memref sig .tc .vmem S27x256x128 .f32) (harg6 : arg6.IsWhole) (arg7 : Memref sig .tc .vmem S1x256 .f32) (harg7 : arg7.IsWhole)
    (arg8 : Memref sig .tc .vmem S1x512x256 .f32) (harg8 : arg8.IsWhole) (arg9 : Memref sig .tc .vmem S256x256 .f32) (harg9 : arg9.IsWhole)
    (x0 : Vec F S1x26x4x32x128 .i32) (x1 : Vec F S1x4x32x128 .i32) (x2 : Vec F S1x27x1x4x128 .f32) (x3 : Vec F S27x256x128 .fp8e4m3)
    (x4 : Vec F S27x256x128 .f32) (x5 : Vec F S1x256 .f32) :
    out1_A_6 (F := F) c i arg2 harg2 arg3 harg3 arg4 harg4 arg5 harg5 arg6 harg6 arg7 harg7 arg8 harg8 arg9 harg9 x0 x1 x2 x3 x4 x5
      = View.canon (Conv.outPieces arg2 harg2 arg3 harg3 arg4 harg4 arg5 harg5 arg6 harg6 arg7 harg7 arg9 x0 x1 x2 x3 x4 x5) := by
  unfold out1_A_6
  rw [View.read_writes_junk_eq_canon, run1_pieces]

/-- The stores of a grid point of call 2. -/
theorem run2_pieces (c : Dev nD) (i : grid2.Coords) (arg2 : Memref sig .tc .vmem S1x26x4x32x128 .i32) (harg2 : arg2.IsWhole) (arg3 : Memref sig .tc .vmem S1x4x32x128 .i32) (harg3 : arg3.IsWhole)
    (arg4 : Memref sig .tc .vmem S1x27x1x4x128 .f32) (harg4 : arg4.IsWhole) (arg5 : Memref sig .tc .vmem S27x256x128 .fp8e4m3) (harg5 : arg5.IsWhole)
    (arg6 : Memref sig .tc .vmem S27x256x128 .f32) (harg6 : arg6.IsWhole) (arg7 : Memref sig .tc .vmem S1x256 .f32) (harg7 : arg7.IsWhole)
    (arg8 : Memref sig .tc .vmem S1x512x256 .f32) (harg8 : arg8.IsWhole) (arg9 : Memref sig .tc .vmem S256x256 .f32) (harg9 : arg9.IsWhole)
    (x0 : Vec F S1x26x4x32x128 .i32) (x1 : Vec F S1x4x32x128 .i32) (x2 : Vec F S1x27x1x4x128 .f32) (x3 : Vec F S27x256x128 .fp8e4m3)
    (x4 : Vec F S27x256x128 .f32) (x5 : Vec F S1x256 .f32) :
    (kernelRun2_A (F := F) c i arg2 harg2 arg3 harg3 arg4 harg4 arg5 harg5 arg6 harg6 arg7 harg7 arg8 harg8 arg9 harg9 x0 x1 x2 x3 x4 x5).1
      = Conv.outPieces arg2 harg2 arg3 harg3 arg4 harg4 arg5 harg5 arg6 harg6 arg7 harg7 arg9 x0 x1 x2 x3 x4 x5 := by
  unfold kernelRun2_A
  dsimp only
  sl_kernel_rfl

/-- The output block of a grid point of call 2. -/
theorem out2_canon (c : Dev nD) (i : grid2.Coords) (arg2 : Memref sig .tc .vmem S1x26x4x32x128 .i32) (harg2 : arg2.IsWhole) (arg3 : Memref sig .tc .vmem S1x4x32x128 .i32) (harg3 : arg3.IsWhole)
    (arg4 : Memref sig .tc .vmem S1x27x1x4x128 .f32) (harg4 : arg4.IsWhole) (arg5 : Memref sig .tc .vmem S27x256x128 .fp8e4m3) (harg5 : arg5.IsWhole)
    (arg6 : Memref sig .tc .vmem S27x256x128 .f32) (harg6 : arg6.IsWhole) (arg7 : Memref sig .tc .vmem S1x256 .f32) (harg7 : arg7.IsWhole)
    (arg8 : Memref sig .tc .vmem S1x512x256 .f32) (harg8 : arg8.IsWhole) (arg9 : Memref sig .tc .vmem S256x256 .f32) (harg9 : arg9.IsWhole)
    (x0 : Vec F S1x26x4x32x128 .i32) (x1 : Vec F S1x4x32x128 .i32) (x2 : Vec F S1x27x1x4x128 .f32) (x3 : Vec F S27x256x128 .fp8e4m3)
    (x4 : Vec F S27x256x128 .f32) (x5 : Vec F S1x256 .f32) :
    out2_A_6 (F := F) c i arg2 harg2 arg3 harg3 arg4 harg4 arg5 harg5 arg6 harg6 arg7 harg7 arg8 harg8 arg9 harg9 x0 x1 x2 x3 x4 x5
      = View.canon (Conv.outPieces arg2 harg2 arg3 harg3 arg4 harg4 arg5 harg5 arg6 harg6 arg7 harg7 arg9 x0 x1 x2 x3 x4 x5) := by
  unfold out2_A_6
  rw [View.read_writes_junk_eq_canon, run2_pieces]

/-- The stores of a grid point of call 3. -/
theorem run3_pieces (c : Dev nD) (i : grid3.Coords) (arg2 : Memref sig .tc .vmem S1x26x4x32x128 .i32) (harg2 : arg2.IsWhole) (arg3 : Memref sig .tc .vmem S1x4x32x128 .i32) (harg3 : arg3.IsWhole)
    (arg4 : Memref sig .tc .vmem S1x27x1x4x128 .f32) (harg4 : arg4.IsWhole) (arg5 : Memref sig .tc .vmem S27x256x128 .fp8e4m3) (harg5 : arg5.IsWhole)
    (arg6 : Memref sig .tc .vmem S27x256x128 .f32) (harg6 : arg6.IsWhole) (arg7 : Memref sig .tc .vmem S1x256 .f32) (harg7 : arg7.IsWhole)
    (arg8 : Memref sig .tc .vmem S1x512x256 .f32) (harg8 : arg8.IsWhole) (arg9 : Memref sig .tc .vmem S256x256 .f32) (harg9 : arg9.IsWhole)
    (x0 : Vec F S1x26x4x32x128 .i32) (x1 : Vec F S1x4x32x128 .i32) (x2 : Vec F S1x27x1x4x128 .f32) (x3 : Vec F S27x256x128 .fp8e4m3)
    (x4 : Vec F S27x256x128 .f32) (x5 : Vec F S1x256 .f32) :
    (kernelRun3_A (F := F) c i arg2 harg2 arg3 harg3 arg4 harg4 arg5 harg5 arg6 harg6 arg7 harg7 arg8 harg8 arg9 harg9 x0 x1 x2 x3 x4 x5).1
      = Conv.outPieces arg2 harg2 arg3 harg3 arg4 harg4 arg5 harg5 arg6 harg6 arg7 harg7 arg9 x0 x1 x2 x3 x4 x5 := by
  unfold kernelRun3_A
  dsimp only
  sl_kernel_rfl

/-- The output block of a grid point of call 3. -/
theorem out3_canon (c : Dev nD) (i : grid3.Coords) (arg2 : Memref sig .tc .vmem S1x26x4x32x128 .i32) (harg2 : arg2.IsWhole) (arg3 : Memref sig .tc .vmem S1x4x32x128 .i32) (harg3 : arg3.IsWhole)
    (arg4 : Memref sig .tc .vmem S1x27x1x4x128 .f32) (harg4 : arg4.IsWhole) (arg5 : Memref sig .tc .vmem S27x256x128 .fp8e4m3) (harg5 : arg5.IsWhole)
    (arg6 : Memref sig .tc .vmem S27x256x128 .f32) (harg6 : arg6.IsWhole) (arg7 : Memref sig .tc .vmem S1x256 .f32) (harg7 : arg7.IsWhole)
    (arg8 : Memref sig .tc .vmem S1x512x256 .f32) (harg8 : arg8.IsWhole) (arg9 : Memref sig .tc .vmem S256x256 .f32) (harg9 : arg9.IsWhole)
    (x0 : Vec F S1x26x4x32x128 .i32) (x1 : Vec F S1x4x32x128 .i32) (x2 : Vec F S1x27x1x4x128 .f32) (x3 : Vec F S27x256x128 .fp8e4m3)
    (x4 : Vec F S27x256x128 .f32) (x5 : Vec F S1x256 .f32) :
    out3_A_6 (F := F) c i arg2 harg2 arg3 harg3 arg4 harg4 arg5 harg5 arg6 harg6 arg7 harg7 arg8 harg8 arg9 harg9 x0 x1 x2 x3 x4 x5
      = View.canon (Conv.outPieces arg2 harg2 arg3 harg3 arg4 harg4 arg5 harg5 arg6 harg6 arg7 harg7 arg9 x0 x1 x2 x3 x4 x5) := by
  unfold out3_A_6
  rw [View.read_writes_junk_eq_canon, run3_pieces]

/-- The stores of a grid point of call 4. -/
theorem run4_pieces (c : Dev nD) (i : grid4.Coords) (arg2 : Memref sig .tc .vmem S1x26x4x32x128 .i32) (harg2 : arg2.IsWhole) (arg3 : Memref sig .tc .vmem S1x4x32x128 .i32) (harg3 : arg3.IsWhole)
    (arg4 : Memref sig .tc .vmem S1x27x1x4x128 .f32) (harg4 : arg4.IsWhole) (arg5 : Memref sig .tc .vmem S27x256x128 .fp8e4m3) (harg5 : arg5.IsWhole)
    (arg6 : Memref sig .tc .vmem S27x256x128 .f32) (harg6 : arg6.IsWhole) (arg7 : Memref sig .tc .vmem S1x256 .f32) (harg7 : arg7.IsWhole)
    (arg8 : Memref sig .tc .vmem S1x512x256 .f32) (harg8 : arg8.IsWhole) (arg9 : Memref sig .tc .vmem S256x256 .f32) (harg9 : arg9.IsWhole)
    (x0 : Vec F S1x26x4x32x128 .i32) (x1 : Vec F S1x4x32x128 .i32) (x2 : Vec F S1x27x1x4x128 .f32) (x3 : Vec F S27x256x128 .fp8e4m3)
    (x4 : Vec F S27x256x128 .f32) (x5 : Vec F S1x256 .f32) :
    (kernelRun4_A (F := F) c i arg2 harg2 arg3 harg3 arg4 harg4 arg5 harg5 arg6 harg6 arg7 harg7 arg8 harg8 arg9 harg9 x0 x1 x2 x3 x4 x5).1
      = Conv.outPieces arg2 harg2 arg3 harg3 arg4 harg4 arg5 harg5 arg6 harg6 arg7 harg7 arg9 x0 x1 x2 x3 x4 x5 := by
  unfold kernelRun4_A
  dsimp only
  sl_kernel_rfl

/-- The output block of a grid point of call 4. -/
theorem out4_canon (c : Dev nD) (i : grid4.Coords) (arg2 : Memref sig .tc .vmem S1x26x4x32x128 .i32) (harg2 : arg2.IsWhole) (arg3 : Memref sig .tc .vmem S1x4x32x128 .i32) (harg3 : arg3.IsWhole)
    (arg4 : Memref sig .tc .vmem S1x27x1x4x128 .f32) (harg4 : arg4.IsWhole) (arg5 : Memref sig .tc .vmem S27x256x128 .fp8e4m3) (harg5 : arg5.IsWhole)
    (arg6 : Memref sig .tc .vmem S27x256x128 .f32) (harg6 : arg6.IsWhole) (arg7 : Memref sig .tc .vmem S1x256 .f32) (harg7 : arg7.IsWhole)
    (arg8 : Memref sig .tc .vmem S1x512x256 .f32) (harg8 : arg8.IsWhole) (arg9 : Memref sig .tc .vmem S256x256 .f32) (harg9 : arg9.IsWhole)
    (x0 : Vec F S1x26x4x32x128 .i32) (x1 : Vec F S1x4x32x128 .i32) (x2 : Vec F S1x27x1x4x128 .f32) (x3 : Vec F S27x256x128 .fp8e4m3)
    (x4 : Vec F S27x256x128 .f32) (x5 : Vec F S1x256 .f32) :
    out4_A_6 (F := F) c i arg2 harg2 arg3 harg3 arg4 harg4 arg5 harg5 arg6 harg6 arg7 harg7 arg8 harg8 arg9 harg9 x0 x1 x2 x3 x4 x5
      = View.canon (Conv.outPieces arg2 harg2 arg3 harg3 arg4 harg4 arg5 harg5 arg6 harg6 arg7 harg7 arg9 x0 x1 x2 x3 x4 x5) := by
  unfold out4_A_6
  rw [View.read_writes_junk_eq_canon, run4_pieces]

/-- The stores of a grid point of call 5. -/
theorem run5_pieces (c : Dev nD) (i : grid5.Coords) (arg2 : Memref sig .tc .vmem S1x26x4x32x128 .i32) (harg2 : arg2.IsWhole) (arg3 : Memref sig .tc .vmem S1x4x32x128 .i32) (harg3 : arg3.IsWhole)
    (arg4 : Memref sig .tc .vmem S1x27x1x4x128 .f32) (harg4 : arg4.IsWhole) (arg5 : Memref sig .tc .vmem S27x256x128 .fp8e4m3) (harg5 : arg5.IsWhole)
    (arg6 : Memref sig .tc .vmem S27x256x128 .f32) (harg6 : arg6.IsWhole) (arg7 : Memref sig .tc .vmem S1x256 .f32) (harg7 : arg7.IsWhole)
    (arg8 : Memref sig .tc .vmem S1x512x256 .f32) (harg8 : arg8.IsWhole) (arg9 : Memref sig .tc .vmem S256x256 .f32) (harg9 : arg9.IsWhole)
    (x0 : Vec F S1x26x4x32x128 .i32) (x1 : Vec F S1x4x32x128 .i32) (x2 : Vec F S1x27x1x4x128 .f32) (x3 : Vec F S27x256x128 .fp8e4m3)
    (x4 : Vec F S27x256x128 .f32) (x5 : Vec F S1x256 .f32) :
    (kernelRun5_A (F := F) c i arg2 harg2 arg3 harg3 arg4 harg4 arg5 harg5 arg6 harg6 arg7 harg7 arg8 harg8 arg9 harg9 x0 x1 x2 x3 x4 x5).1
      = Conv.outPieces arg2 harg2 arg3 harg3 arg4 harg4 arg5 harg5 arg6 harg6 arg7 harg7 arg9 x0 x1 x2 x3 x4 x5 := by
  unfold kernelRun5_A
  dsimp only
  sl_kernel_rfl

/-- The output block of a grid point of call 5. -/
theorem out5_canon (c : Dev nD) (i : grid5.Coords) (arg2 : Memref sig .tc .vmem S1x26x4x32x128 .i32) (harg2 : arg2.IsWhole) (arg3 : Memref sig .tc .vmem S1x4x32x128 .i32) (harg3 : arg3.IsWhole)
    (arg4 : Memref sig .tc .vmem S1x27x1x4x128 .f32) (harg4 : arg4.IsWhole) (arg5 : Memref sig .tc .vmem S27x256x128 .fp8e4m3) (harg5 : arg5.IsWhole)
    (arg6 : Memref sig .tc .vmem S27x256x128 .f32) (harg6 : arg6.IsWhole) (arg7 : Memref sig .tc .vmem S1x256 .f32) (harg7 : arg7.IsWhole)
    (arg8 : Memref sig .tc .vmem S1x512x256 .f32) (harg8 : arg8.IsWhole) (arg9 : Memref sig .tc .vmem S256x256 .f32) (harg9 : arg9.IsWhole)
    (x0 : Vec F S1x26x4x32x128 .i32) (x1 : Vec F S1x4x32x128 .i32) (x2 : Vec F S1x27x1x4x128 .f32) (x3 : Vec F S27x256x128 .fp8e4m3)
    (x4 : Vec F S27x256x128 .f32) (x5 : Vec F S1x256 .f32) :
    out5_A_6 (F := F) c i arg2 harg2 arg3 harg3 arg4 harg4 arg5 harg5 arg6 harg6 arg7 harg7 arg8 harg8 arg9 harg9 x0 x1 x2 x3 x4 x5
      = View.canon (Conv.outPieces arg2 harg2 arg3 harg3 arg4 harg4 arg5 harg5 arg6 harg6 arg7 harg7 arg9 x0 x1 x2 x3 x4 x5) := by
  unfold out5_A_6
  rw [View.read_writes_junk_eq_canon, run5_pieces]

end Cert.KernelIdeal.Gen

end
-- ==== Proof.Block.lean ====
/- What a grid point of the convolution kernel stores, at an index, over the extended reals. -/
module

public import proofs.«01_k».proof.Proof.Pieces
public import Idealize.ShloMosaic.Lib.Pointwise
public import Idealize.ShloMosaic.Lib.BitcastPair
public import Idealize.ShloMosaic.Lib.Pipeline.Value

@[expose] public section

set_option maxRecDepth 16384

noncomputable section

namespace Cert.KernelIdeal.Gen.Conv

open Idealize.ShloMosaic Cert.KernelIdeal Idealize.ShloMosaic.Pointwise
open scoped BigOperators

/-- A lane half of the scaled product at an index. -/
theorem scaled_apply (p : FVec Ideal S256x128 .f32) (s : Vec Ideal S1x1x1x1x128 .f32) (ws : Vec Ideal S1x256x128 .f32) (o : Fin 256) (l : Fin 128) :
    scaled p s ws (ix2 o l) = p (ix2 o l) * s (ix5 0 0 0 0 l) * ws (ix3 0 o l) := by
  pointwise [scaled]

theorem half0_apply (p : FVec Ideal S256x256 .f32) (o : Fin 256) (l : Fin 128) :
    half0 p (ix2 o l) = p (ix2 o ⟨l.val, by omega⟩) := by
  pointwise [half0]

theorem half1_apply (p : FVec Ideal S256x256 .f32) (o : Fin 256) (l : Fin 128) :
    half1 p (ix2 o l) = p (ix2 o ⟨128 + l.val, by omega⟩) := by
  pointwise [half1]

theorem stored_eq (x : FVec Ideal S256x128 .f32) : stored x = x := by
  funext j
  pointwise [stored]

theorem outv_apply (a : Vec Ideal S256x256 .f32) (b : Vec Ideal S1x256 .f32) (v : Fin 256) (o : Fin 256) :
    outv a b (ix3 0 v o) = a (ix2 o v) + b (ix2 0 o) := by
  pointwise [outv]

theorem product_apply (w : Vec Ideal S1x256x128 .fp8e4m3) (c : FVec Ideal S128x256 .fp8e4m3) (o v : Fin 256) :
    product w c (ix2 o v) = ∑ d : Fin 128, w (ix3 0 o d) * c (ix2 d v) := by
  pointwise [product]

theorem codes_apply (a b : IVec S32x128 32) (d : Fin 128) (v : Fin 256) :
    codes (F := Ideal) a b (ix2 d v) = if h : v.val < 128 then unpack a (ix2 d ⟨v.val, h⟩) else unpack b (ix2 d ⟨v.val - 128, by omega⟩) := by
  pointwise [codes]

/-- Byte `r` of a word, the lowest first. -/
def byte (w : BitVec 32) (r : ℕ) : BitVec 8 := w.extractLsb' (8 * r) 8

/-- The fp8 code in byte `r` of a word. -/
def code (w : BitVec 32) (r : ℕ) : Ideal .fp8e4m3 := FloatOps.ofBits .fp8e4m3 (byte w r)

/-- Channel `d` of a position is byte `d % 4` of the word in row `d / 4`. -/
theorem unpack_apply (v : IVec S32x128 32) (d l : Fin 128) :
    unpack (F := Ideal) v (ix2 d l) = code (v (ix2 ⟨d.val / 4, by omega⟩ l)) (d.val % 4) := by
  unfold unpack code bitcastToFloat
  refine congrArg _ ?_
  refine BitVec.eq_of_getLsbD_eq fun q hq => ?_
  rw [bitcast_getLsbD _ _ _ q hq (by omega)]
  unfold byte
  rw [BitVec.getLsbD_extractLsb', decide_eq_true hq, Bool.true_and]
  have e1 : (Shape.row (s := S128x128) (ix2 d l) * 8 + q) / 32 = d.val / 4 := by
    show (d.val * 8 + q) / 32 = _; omega
  have e2 : (Shape.row (s := S128x128) (ix2 d l) * 8 + q) % 32 = 8 * (d.val % 4) + q := by
    show (d.val * 8 + q) % 32 = _; omega
  rw [e2]
  refine congrArg (fun w => BitVec.getLsbD w _) (congrArg v ?_)
  refine funext fun a => Fin.ext ?_
  match a with
  | ⟨0, _⟩ => exact (Shape.Bitcasts.srcIdx_row _ _ _ _ _ rfl).trans e1
  | ⟨1, _⟩ => exact Shape.Bitcasts.srcIdx_other _ _ _ _ _ (show ¬ (1 + 2 = 2) by omega)

section Acc

variable {F : FTy → Type} [FloatOps F]

/-- The running sum of a lane half's terms up to offset `k`. -/
def accum (t : (k : ℕ) → k < 27 → FVec F S256x128 .f32) : (k : ℕ) → k < 27 → FVec F S256x128 .f32
  | 0, h => t 0 h
  | k + 1, h => addf (accum t k (by omega)) (t (k + 1) h)

theorem disj10 : LoadRect.disj rect1 rect0.toLoadRect = true := by decide
theorem disj01 : LoadRect.disj rect0 rect1.toLoadRect = true := by decide

theorem stored_eq' (x : FVec F S256x128 .f32) : stored x = x := shapeCast_self x _

variable [∀ e, Nonempty (Elt F e)]

/-- The first lane half read after offset `k`: its running sum. -/
theorem Lists_read0 {κ : Kind} {sp : Space} (v : View sig κ sp S256x256 .f32) (t0 t1 : (k : ℕ) → k < 27 → FVec F S256x128 .f32)
    (base : List (View.Piece (Elt F) S256x256 .f32)) (k : ℕ) (hk : k < 27) :
    v.readCov (Lists v t0 t1 base k hk) rect0.toLoadRect = accum t0 k hk := by
  induction k with
  | zero => exact (View.readCov_skip v _ _ _ _ disj10).trans ((View.readCov_cons_toLoadRect v _ _ _).trans (stored_eq' _))
  | succ k ih =>
    exact (View.readCov_skip v _ _ _ _ disj10).trans ((View.readCov_cons_toLoadRect v _ _ _).trans ((stored_eq' _).trans
      (congrArg (fun a => addf a (t0 (k + 1) hk)) (ih (by omega)))))

/-- The second lane half read after offset `k`: its running sum. -/
theorem Lists_read1 {κ : Kind} {sp : Space} (v : View sig κ sp S256x256 .f32) (t0 t1 : (k : ℕ) → k < 27 → FVec F S256x128 .f32)
    (base : List (View.Piece (Elt F) S256x256 .f32)) (k : ℕ) (hk : k < 27) :
    v.readCov (Lists v t0 t1 base k hk) rect1.toLoadRect = accum t1 k hk := by
  induction k with
  | zero => exact (View.readCov_cons_toLoadRect v _ _ _).trans (stored_eq' _)
  | succ k ih =>
    exact (View.readCov_cons_toLoadRect v _ _ _).trans ((stored_eq' _).trans
      (congrArg (fun a => addf a (t1 (k + 1) hk)) ((View.readCov_skip v _ _ _ _ disj01).trans (ih (by omega)))))

/-- The accumulator read whole after offset `k`: each lane half's running sum. -/
theorem Lists_readA {κ : Kind} {sp : Space} (v : View sig κ sp S256x256 .f32) (t0 t1 : (k : ℕ) → k < 27 → FVec F S256x128 .f32)
    (base : List (View.Piece (Elt F) S256x256 .f32)) (k : ℕ) (hk : k < 27) (o p : Fin 256) :
    v.readCov (Lists v t0 t1 base k hk) rectA.toLoadRect (ix2 o p)
      = if h : p.val < 128 then accum t0 k hk (ix2 o ⟨p.val, h⟩) else accum t1 k hk (ix2 o ⟨p.val - 128, by omega⟩) := by
  split_ifs with h
  · rw [← Lists_read0 v t0 t1 base k hk, View.readCov_eq_canon', View.readCov_eq_canon']
    refine congrArg _ (funext fun a => Fin.ext ?_)
    match a with
    | ⟨0, _⟩ => rfl
    | ⟨1, _⟩ => rfl
  · rw [← Lists_read1 v t0 t1 base k hk, View.readCov_eq_canon', View.readCov_eq_canon']
    refine congrArg _ (funext fun a => Fin.ext ?_)
    match a with
    | ⟨0, _⟩ => rfl
    | ⟨1, _⟩ => show 0 + 1 * p.val = 128 + 1 * (p.val - 128); omega

end Acc

/-- The running sum is the sum over the offsets. -/
theorem accum_apply (t : (k : ℕ) → k < 27 → FVec Ideal S256x128 .f32) (k : ℕ) (hk : k < 27) (j : S256x128.Idx) :
    accum t k hk j = ∑ i : Fin (k + 1), t i.val (by omega) j := by
  induction k with
  | zero => simp [accum]
  | succ k ih => rw [accum, Fin.sum_univ_castSucc]; exact congrArg (· + _) (ih _)

section Loads

variable (arg2 : Memref sig .tc .vmem S1x26x4x32x128 .i32) (harg2 : arg2.IsWhole) (arg3 : Memref sig .tc .vmem S1x4x32x128 .i32) (harg3 : arg3.IsWhole)
  (arg4 : Memref sig .tc .vmem S1x27x1x4x128 .f32) (harg4 : arg4.IsWhole) (arg5 : Memref sig .tc .vmem S27x256x128 .fp8e4m3) (harg5 : arg5.IsWhole)
  (arg6 : Memref sig .tc .vmem S27x256x128 .f32) (harg6 : arg6.IsWhole) (arg7 : Memref sig .tc .vmem S1x256 .f32) (harg7 : arg7.IsWhole)
  (arg9 : Memref sig .tc .vmem S256x256 .f32)
  (x0 : Vec Ideal S1x26x4x32x128 .i32) (x1 : Vec Ideal S1x4x32x128 .i32) (x2 : Vec Ideal S1x27x1x4x128 .f32) (x3 : Vec Ideal S27x256x128 .fp8e4m3)
  (x4 : Vec Ideal S27x256x128 .f32) (x5 : Vec Ideal S1x256 .f32)

/-- The word of row `r`, lane `l` of group `g` at offset `k`, from the staged blocks. -/
def wordB (x0 : Vec Ideal S1x26x4x32x128 .i32) (x1 : Vec Ideal S1x4x32x128 .i32) (k : Fin 27) (g : Fin 4) (r : Fin 32) (l : Fin 128) : BitVec 32 :=
  if h : k.val < 13 then x0 (ix5 0 ⟨k.val, by omega⟩ g r l) else if k.val = 13 then x1 (ix4 0 g r l) else x0 (ix5 0 ⟨k.val - 1, by omega⟩ g r l)

/-- One group's words out of a load of them. -/
theorem cast5_apply (x : IVec S1x1x1x32x128 32) (r : Fin 32) (l : Fin 128) :
    shapeCast S32x128 x shapeCasts_S1x1x1x32x128_S32x128 (ix2 r l) = x (ix5 0 0 0 r l) := by pointwise

/-- One group's centre words out of a load of them. -/
theorem cast4_apply (x : IVec S1x1x32x128 32) (r : Fin 32) (l : Fin 128) :
    shapeCast S32x128 x shapeCasts_S1x1x32x128_S32x128 (ix2 r l) = x (ix4 0 0 r l) := by pointwise

/-- A load of one gathered group's words. -/
theorem loadG (k g : ℕ) (hk : k < 26) (hg : g < 4) (r : Fin 32) (l : Fin 128) :
    View.readAt (Elt Ideal) arg2.view (Rect.unit (s := S1x26x4x32x128) ![0, k, g, 0, 0] S1x1x1x32x128.size (inbG hk hg)).toLoadRect (harg2.unread x0) (ix5 0 0 0 r l : S1x1x1x32x128.Idx)
      = x0 (ix5 0 ⟨k, hk⟩ ⟨g, hg⟩ r l) := by
  rw [View.readAt_eq_ld, harg2.read_unread]
  refine congrArg x0 (funext fun a => Fin.ext ?_)
  match a with
  | ⟨0, _⟩ => rfl
  | ⟨1, _⟩ => rfl
  | ⟨2, _⟩ => rfl
  | ⟨3, _⟩ => show 0 + 1 * r.val = r.val; omega
  | ⟨4, _⟩ => show 0 + 1 * l.val = l.val; omega

/-- A load of one group's centre words. -/
theorem loadX (g : ℕ) (hg : g < 4) (r : Fin 32) (l : Fin 128) :
    View.readAt (Elt Ideal) arg3.view (Rect.unit (s := S1x4x32x128) ![0, g, 0, 0] S1x1x32x128.size (inbX hg)).toLoadRect (harg3.unread x1) (ix4 0 0 r l : S1x1x32x128.Idx)
      = x1 (ix4 0 ⟨g, hg⟩ r l) := by
  rw [View.readAt_eq_ld, harg3.read_unread]
  refine congrArg x1 (funext fun a => Fin.ext ?_)
  match a with
  | ⟨0, _⟩ => rfl
  | ⟨1, _⟩ => rfl
  | ⟨2, _⟩ => show 0 + 1 * r.val = r.val; omega
  | ⟨3, _⟩ => show 0 + 1 * l.val = l.val; omega

/-- The words the body takes at offset `k`, at an index. -/
theorem wordsAt_apply (g : ℕ) (hg : g < 4) (k : ℕ) (hk : k < 27) (r : Fin 32) (l : Fin 128) :
    wordsAt (F := Ideal) arg2 harg2 arg3 harg3 x0 x1 g hg k hk (ix2 r l) = wordB x0 x1 ⟨k, hk⟩ ⟨g, hg⟩ r l := by
  unfold wordsAt wordB
  split_ifs with h h'
  · exact (cast5_apply _ r l).trans (loadG arg2 harg2 x0 k g _ hg r l)
  · exact (cast4_apply _ r l).trans (loadX arg3 harg3 x1 g hg r l)
  · exact (cast5_apply _ r l).trans (loadG arg2 harg2 x0 (k - 1) g _ hg r l)

/-- One offset's term at an output channel, a group and a lane: the dot of the weights with the codes, times both scales. -/
def termB (x0 : Vec Ideal S1x26x4x32x128 .i32) (x1 : Vec Ideal S1x4x32x128 .i32) (x2 : Vec Ideal S1x27x1x4x128 .f32) (x3 : Vec Ideal S27x256x128 .fp8e4m3)
    (x4 : Vec Ideal S27x256x128 .f32) (k : Fin 27) (g : Fin 4) (l : Fin 128) (o : Fin 256) : Ideal .f32 :=
  (∑ d : Fin 128, x3 (ix3 k o d) * code (wordB x0 x1 k g ⟨d.val / 4, by omega⟩ l) (d.val % 4)) * x2 (ix5 0 k 0 g l) * x4 (ix3 k o l)

theorem term0_apply (h : ℕ) (hh : h < 2) (k : ℕ) (hk : k < 27) (o : Fin 256) (l : Fin 128) :
    term0 (F := Ideal) arg2 harg2 arg3 harg3 arg4 harg4 arg5 harg5 arg6 harg6 x0 x1 x2 x3 x4 h hh k hk (ix2 o l)
      = termB x0 x1 x2 x3 x4 ⟨k, hk⟩ ⟨2 * h, by omega⟩ l o := by
  unfold term0 prodAt termB
  rw [scaled_apply, half0_apply, product_apply]
  simp only [codes_apply, l.isLt, dif_pos, unpack_apply, wordsAt_apply, View.readAt_eq_ld, Memref.IsWhole.read_unread]
  pointwise

theorem term1_apply (h : ℕ) (hh : h < 2) (k : ℕ) (hk : k < 27) (o : Fin 256) (l : Fin 128) :
    term1 (F := Ideal) arg2 harg2 arg3 harg3 arg4 harg4 arg5 harg5 arg6 harg6 x0 x1 x2 x3 x4 h hh k hk (ix2 o l)
      = termB x0 x1 x2 x3 x4 ⟨k, hk⟩ ⟨2 * h + 1, by omega⟩ l o := by
  unfold term1 prodAt termB
  rw [scaled_apply, half1_apply, product_apply]
  have e : ¬ (128 + l.val < 128) := by omega
  have e' : (⟨128 + l.val - 128, by omega⟩ : Fin 128) = l := Fin.ext (by simp)
  simp only [codes_apply, e, dif_neg, not_false_eq_true, e', unpack_apply, wordsAt_apply, View.readAt_eq_ld, Memref.IsWhole.read_unread]
  pointwise

/-- The output block at position `v` of its 512 and channel `o`. -/
def blockB (x0 : Vec Ideal S1x26x4x32x128 .i32) (x1 : Vec Ideal S1x4x32x128 .i32) (x2 : Vec Ideal S1x27x1x4x128 .f32) (x3 : Vec Ideal S27x256x128 .fp8e4m3)
    (x4 : Vec Ideal S27x256x128 .f32) (x5 : Vec Ideal S1x256 .f32) (v : Fin 512) (o : Fin 256) : Ideal .f32 :=
  (∑ k : Fin 27, termB x0 x1 x2 x3 x4 k ⟨v.val / 128, by omega⟩ ⟨v.val % 128, by omega⟩ o) + x5 (ix2 0 o)

theorem half_apply (h : ℕ) (hh : h < 2) (base : List (View.Piece (Elt Ideal) S256x256 .f32)) (v o : Fin 256) :
    outv (arg9.view.readCov (halfList arg2 harg2 arg3 harg3 arg4 harg4 arg5 harg5 arg6 harg6 arg9 x0 x1 x2 x3 x4 h hh base 26 (by omega)) rectA.toLoadRect)
        (biasv arg7 harg7 x5) (ix3 0 v o)
      = blockB x0 x1 x2 x3 x4 x5 ⟨256 * h + v.val, by omega⟩ o := by
  refine (outv_apply _ _ v o).trans ?_
  unfold halfList biasv blockB
  rw [Lists_readA, View.readAt_eq_ld, harg7.read_unread]
  congr 1
  · split_ifs with hv
    · rw [accum_apply]
      refine Finset.sum_congr rfl fun k _ => ?_
      rw [term0_apply]
      congr 1 <;> apply Fin.ext <;> simp <;> omega
    · rw [accum_apply]
      refine Finset.sum_congr rfl fun k _ => ?_
      rw [term1_apply]
      congr 1 <;> apply Fin.ext <;> simp <;> omega
  · pointwise

/-- The output block's first half. -/
def rectLo : Rect S1x512x256 := Rect.unit (s := S1x512x256) ![0, 0, 0] S1x256x256.size inb_S1x512x256_S1x256x256_0_0_0
/-- The output block's second half. -/
def rectHi : Rect S1x512x256 := Rect.unit (s := S1x512x256) ![0, 256, 0] S1x256x256.size inb_S1x512x256_S1x256x256_0_256_0

theorem disjHiLo : LoadRect.disj rectHi rectLo.toLoadRect = true := by decide

/-- Two stores of half blocks read at an index. -/
theorem canon_halves (w1 w0 : FVec Ideal S1x256x256 .f32) (v : Fin 512) (o : Fin 256) :
    View.canon (Val := Elt Ideal) (s := S1x512x256) (e := .f32) [⟨rectHi, w1⟩, ⟨rectLo, w0⟩] (ix3 0 v o)
      = if h : v.val < 256 then w0 (ix3 0 ⟨v.val, h⟩ o) else w1 (ix3 0 ⟨v.val - 256, by omega⟩ o) := by
  split_ifs with hv
  · let x : S1x256x256.Idx := ix3 0 ⟨v.val, hv⟩ o
    have he : (ix3 0 v o : S1x512x256.Idx) = rectLo.emb x := by
      refine funext fun a => Fin.ext ?_
      match a with
      | ⟨0, _⟩ => rfl
      | ⟨1, _⟩ => show v.val = 0 + 1 * v.val; omega
      | ⟨2, _⟩ => show o.val = 0 + 1 * o.val; omega
    rw [he]
    refine (View.canon_cons_of_not_mem (Val := Elt Ideal) (e := .f32) ⟨rectHi, w1⟩ _ (LoadRect.idx_not_mem_of_disj disjHiLo x)).trans ?_
    exact View.canon_cons_emb (Val := Elt Ideal) (e := .f32) rectLo w0 _ x
  · let x : S1x256x256.Idx := ix3 0 ⟨v.val - 256, by omega⟩ o
    have he : (ix3 0 v o : S1x512x256.Idx) = rectHi.emb x := by
      refine funext fun a => Fin.ext ?_
      match a with
      | ⟨0, _⟩ => rfl
      | ⟨1, _⟩ => show v.val = 256 + 1 * (v.val - 256); omega
      | ⟨2, _⟩ => show o.val = 0 + 1 * o.val; omega
    rw [he]
    exact View.canon_cons_emb (Val := Elt Ideal) (e := .f32) rectHi w1 _ x

/-- What a grid point stores: the block of `blockB`. -/
theorem canon_outPieces (v : Fin 512) (o : Fin 256) :
    View.canon (outPieces (F := Ideal) arg2 harg2 arg3 harg3 arg4 harg4 arg5 harg5 arg6 harg6 arg7 harg7 arg9 x0 x1 x2 x3 x4 x5) (ix3 0 v o)
      = blockB x0 x1 x2 x3 x4 x5 v o := by
  refine (canon_halves _ _ v o).trans ?_
  split_ifs with hv
  · refine (half_apply arg2 harg2 arg3 harg3 arg4 harg4 arg5 harg5 arg6 harg6 arg7 harg7 arg9 x0 x1 x2 x3 x4 x5 0 (by omega) [] _ o).trans ?_
    congr 1; apply Fin.ext; simp
  · refine (half_apply arg2 harg2 arg3 harg3 arg4 harg4 arg5 harg5 arg6 harg6 arg7 harg7 arg9 x0 x1 x2 x3 x4 x5 1 (by omega) _ _ o).trans ?_
    congr 1; apply Fin.ext; simp; omega

end Loads

end Cert.KernelIdeal.Gen.Conv

end
-- ==== Proof.Conv.lean ====
/- The convolution of a group of four scenes as one function of the arrays a call reads, and a grid point's block as
   part of it. -/
module

public import proofs.«01_k».proof.Proof.Block

@[expose] public section

set_option maxRecDepth 16384

noncomputable section

namespace Cert.KernelIdeal.Gen.Conv

open Idealize.ShloMosaic Cert.KernelIdeal Idealize.ShloMosaic.Pointwise
open scoped BigOperators

/-- The word of row `r` of position `128 * u + l` at offset `k`: the gathered ones of scene `s` of the group, at the
    centre scene `n`'s own. -/
def wordA (x : Vec Ideal S24x128x32x128 .i32) (g : Vec Ideal S4x26x128x32x128 .i32) (s : Fin 4) (n : Fin 24) (k : Fin 27) (u : Fin 128) (r : Fin 32) (l : Fin 128) : BitVec 32 :=
  if h : k.val < 13 then g (ix5 s ⟨k.val, by omega⟩ u r l) else if k.val = 13 then x (ix4 n u r l) else g (ix5 s ⟨k.val - 1, by omega⟩ u r l)

/-- The convolution's value for scene `s` of the group (scene `n` of all), position `128 * (4 * q + v) + l` and channel `o`. -/
def convA (g : Vec Ideal S4x26x128x32x128 .i32) (x : Vec Ideal S24x128x32x128 .i32) (sg : Vec Ideal S4x27x32x4x128 .f32) (w : Vec Ideal S27x256x128 .fp8e4m3)
    (ws : Vec Ideal S27x256x128 .f32) (b : Vec Ideal S1x256 .f32) (s : Fin 4) (n : Fin 24) (q : Fin 32) (v : Fin 4) (l : Fin 128) (o : Fin 256) : Ideal .f32 :=
  (∑ k : Fin 27, (∑ d : Fin 128, w (ix3 k o d) * code (wordA x g s n k ⟨4 * q.val + v.val, by omega⟩ ⟨d.val / 4, by omega⟩ l) (d.val % 4))
      * sg (ix5 s k q v l) * ws (ix3 k o l)) + b (ix2 0 o)

/-- A block whose inputs are the arrays' blocks at scene `s`, tile `q` holds the convolution there. -/
theorem blockB_eq {x0 : Vec Ideal S1x26x4x32x128 .i32} {x1 : Vec Ideal S1x4x32x128 .i32} {x2 : Vec Ideal S1x27x1x4x128 .f32} {x3 : Vec Ideal S27x256x128 .fp8e4m3}
    {x4 : Vec Ideal S27x256x128 .f32} {x5 : Vec Ideal S1x256 .f32}
    {g : Vec Ideal S4x26x128x32x128 .i32} {x : Vec Ideal S24x128x32x128 .i32} {sg : Vec Ideal S4x27x32x4x128 .f32} {w : Vec Ideal S27x256x128 .fp8e4m3}
    {ws : Vec Ideal S27x256x128 .f32} {b : Vec Ideal S1x256 .f32} {s : Fin 4} {n : Fin 24} {q : Fin 32}
    (h0 : ∀ k v r l, x0 (ix5 0 k v r l) = g (ix5 s k ⟨4 * q.val + v.val, by omega⟩ r l))
    (h1 : ∀ v r l, x1 (ix4 0 v r l) = x (ix4 n ⟨4 * q.val + v.val, by omega⟩ r l))
    (h2 : ∀ k v l, x2 (ix5 0 k 0 v l) = sg (ix5 s k q v l))
    (h3 : ∀ k o d, x3 (ix3 k o d) = w (ix3 k o d)) (h4 : ∀ k o l, x4 (ix3 k o l) = ws (ix3 k o l)) (h5 : ∀ o, x5 (ix2 0 o) = b (ix2 0 o))
    (v : Fin 4) (l : Fin 128) (o : Fin 256) :
    blockB x0 x1 x2 x3 x4 x5 ⟨128 * v.val + l.val, by omega⟩ o = convA g x sg w ws b s n q v l o := by
  have ev : (⟨(128 * v.val + l.val) / 128, by omega⟩ : Fin 4) = v := Fin.ext (by show (128 * v.val + l.val) / 128 = _; omega)
  have el : (⟨(128 * v.val + l.val) % 128, by omega⟩ : Fin 128) = l := Fin.ext (by show (128 * v.val + l.val) % 128 = _; omega)
  unfold blockB convA termB wordB wordA
  simp only [ev, el, h0, h1, h2, h3, h4, h5]

/-- The array a call leaves, at an index of the scenes it writes. -/
def convG (g : Vec Ideal S4x26x128x32x128 .i32) (x : Vec Ideal S24x128x32x128 .i32) (sg : Vec Ideal S4x27x32x4x128 .f32) (w : Vec Ideal S27x256x128 .fp8e4m3)
    (ws : Vec Ideal S27x256x128 .f32) (b : Vec Ideal S1x256 .f32) : Vec Ideal S24x16384x256 .f32 := fun i =>
  convA g x sg w ws b ⟨(i 0).val % 4, by omega⟩ (i 0) ⟨(i 1).val / 512, by have : (i 1).val < 16384 := (i 1).isLt; omega⟩
    ⟨(i 1).val % 512 / 128, by omega⟩ ⟨(i 1).val % 128, by omega⟩ (i 2)

/-- The array at an index of the block of scene `n`, tile `q`. -/
theorem convG_apply (g : Vec Ideal S4x26x128x32x128 .i32) (x : Vec Ideal S24x128x32x128 .i32) (sg : Vec Ideal S4x27x32x4x128 .f32) (w : Vec Ideal S27x256x128 .fp8e4m3)
    (ws : Vec Ideal S27x256x128 .f32) (b : Vec Ideal S1x256 .f32) (s : Fin 4) (n : Fin 24) (hs : n.val % 4 = s.val) (q : Fin 32) (v : Fin 4) (l : Fin 128) (o : Fin 256)
    (i : S24x16384x256.Idx) (h0 : (i 0).val = n.val) (h1 : (i 1).val = 512 * q.val + (128 * v.val + l.val)) (h2 : (i 2).val = o.val) :
    convG g x sg w ws b i = convA g x sg w ws b s n q v l o := by
  unfold convG
  have e0 : i 0 = n := Fin.ext h0
  have e2 : i 2 = o := Fin.ext h2
  have es : (⟨(i 0).val % 4, by omega⟩ : Fin 4) = s := Fin.ext (by show (i 0).val % 4 = _; omega)
  have eq : (⟨(i 1).val / 512, by omega⟩ : Fin 32) = q := Fin.ext (by show (i 1).val / 512 = _; omega)
  have ev : (⟨(i 1).val % 512 / 128, by omega⟩ : Fin 4) = v := Fin.ext (by show (i 1).val % 512 / 128 = _; omega)
  have el : (⟨(i 1).val % 128, by omega⟩ : Fin 128) = l := Fin.ext (by show (i 1).val % 128 = _; omega)
  rw [es, eq, ev, el, e0, e2]

/-- An index of the output block by its position and channel. -/
theorem exists_ix3 (y : S1x512x256.Idx) : ∃ (p : Fin 512) (o : Fin 256), y = (ix3 0 p o : S1x512x256.Idx) := by
  refine ⟨y 1, y 2, funext fun a => ?_⟩
  match a with
  | ⟨0, _⟩ => exact Fin.ext (show (y 0).val = 0 from by have : (y 0).val < 1 := (y 0).isLt; omega)
  | ⟨1, _⟩ => rfl
  | ⟨2, _⟩ => rfl

/-- A position of a tile by its group and lane. -/
theorem exists_lane (p : Fin 512) : ∃ (v : Fin 4) (l : Fin 128), p = ⟨128 * v.val + l.val, by omega⟩ :=
  ⟨⟨p.val / 128, by omega⟩, ⟨p.val % 128, by omega⟩, Fin.ext (by show p.val = 128 * (p.val / 128) + p.val % 128; omega)⟩

/-- A grid point by its scene and tile. -/
theorem exists_tile (t : ℕ) (h : t < 128) : ∃ (s : Fin 4) (q : Fin 32), t = 32 * s.val + q.val :=
  ⟨⟨t / 32, by omega⟩, ⟨t % 32, by omega⟩, by show t = 32 * (t / 32) + t % 32; omega⟩

/-- An index of the array by the tile its position is in. -/
theorem tile_eq (i : S24x16384x256.Idx) :
    i = (ix3 (i 0) ⟨512 * ((i 1).val / 512) + (i 1).val % 512, by have : (i 1).val < 16384 := (i 1).isLt; omega⟩ (i 2) : S24x16384x256.Idx) := by
  refine funext fun a => ?_
  match a with
  | ⟨0, _⟩ => rfl
  | ⟨1, _⟩ => exact Fin.ext (show (i 1).val = 512 * ((i 1).val / 512) + (i 1).val % 512 by omega)
  | ⟨2, _⟩ => rfl

end Cert.KernelIdeal.Gen.Conv

end
-- ==== Proof.Coords.lean ====
/- Where the elements of each window's block sit in its array, by coordinates. -/
module

public import proofs.«01_k».proof.Proof.Conv

@[expose] public section

namespace Cert.KernelIdeal.Gen.Conv

open Idealize.ShloMosaic Cert.KernelIdeal Idealize.ShloMosaic.Pointwise

variable {t : ℕ} {s : Fin 4} {q : Fin 32} (ht : t = 32 * s.val + q.val)
include ht

/-- An element of the gathered words' block of scene `s`, tile `q`. -/
theorem at_g {idx : Fin 5 → ℕ} (h : ∀ a, idx a = ![t / 32, 0, t % 32, 0, 0] a) (k : Fin 26) (v : Fin 4) (r : Fin 32) (l : Fin 128) (a : Fin 5) :
    idx a * S1x26x4x32x128.size a + ((ix5 0 k v r l : S1x26x4x32x128.Idx) a).val
      = ((ix5 s k ⟨4 * q.val + v.val, by omega⟩ r l : S4x26x128x32x128.Idx) a).val := by
  rw [h]
  match a with
  | ⟨0, _⟩ => show t / 32 * 1 + 0 = s.val; omega
  | ⟨1, _⟩ => show 0 * 26 + k.val = k.val; omega
  | ⟨2, _⟩ => show t % 32 * 4 + v.val = 4 * q.val + v.val; omega
  | ⟨3, _⟩ => show 0 * 32 + r.val = r.val; omega
  | ⟨4, _⟩ => show 0 * 128 + l.val = l.val; omega

/-- An element of the scenes' own words' block. -/
theorem at_x {n : Fin 24} {b0 : ℕ} (hn : n.val = s.val + b0) {idx : Fin 4 → ℕ} (h : ∀ a, idx a = ![t / 32 + b0, t % 32, 0, 0] a) (v : Fin 4) (r : Fin 32) (l : Fin 128) (a : Fin 4) :
    idx a * S1x4x32x128.size a + ((ix4 0 v r l : S1x4x32x128.Idx) a).val
      = ((ix4 n ⟨4 * q.val + v.val, by omega⟩ r l : S24x128x32x128.Idx) a).val := by
  rw [h]
  match a with
  | ⟨0, _⟩ => show (t / 32 + b0) * 1 + 0 = n.val; omega
  | ⟨1, _⟩ => show t % 32 * 4 + v.val = 4 * q.val + v.val; omega
  | ⟨2, _⟩ => show 0 * 32 + r.val = r.val; omega
  | ⟨3, _⟩ => show 0 * 128 + l.val = l.val; omega

/-- An element of the gathered scales' block. -/
theorem at_sg {idx : Fin 5 → ℕ} (h : ∀ a, idx a = ![t / 32, 0, t % 32, 0, 0] a) (k : Fin 27) (v : Fin 4) (l : Fin 128) (a : Fin 5) :
    idx a * S1x27x1x4x128.size a + ((ix5 0 k 0 v l : S1x27x1x4x128.Idx) a).val
      = ((ix5 s k q v l : S4x27x32x4x128.Idx) a).val := by
  rw [h]
  match a with
  | ⟨0, _⟩ => show t / 32 * 1 + 0 = s.val; omega
  | ⟨1, _⟩ => show 0 * 27 + k.val = k.val; omega
  | ⟨2, _⟩ => show t % 32 * 1 + 0 = q.val; omega
  | ⟨3, _⟩ => show 0 * 4 + v.val = v.val; omega
  | ⟨4, _⟩ => show 0 * 128 + l.val = l.val; omega

/-- An element of the output block. -/
theorem at_y {n : Fin 24} {b0 : ℕ} (hn : n.val = s.val + b0) {idx : Fin 3 → ℕ} (h : ∀ a, idx a = ![t / 32 + b0, t % 32, 0] a) (p : Fin 512) (o : Fin 256) (a : Fin 3) :
    idx a * S1x512x256.size a + ((ix3 0 p o : S1x512x256.Idx) a).val
      = ((ix3 n ⟨512 * q.val + p.val, by omega⟩ o : S24x16384x256.Idx) a).val := by
  rw [h]
  match a with
  | ⟨0, _⟩ => show (t / 32 + b0) * 1 + 0 = n.val; omega
  | ⟨1, _⟩ => show t % 32 * 512 + p.val = 512 * q.val + p.val; omega
  | ⟨2, _⟩ => show 0 * 256 + o.val = o.val; omega

omit ht in
/-- At block index zero on an axis an element has its own coordinate. -/
theorem at_0 {i n x : ℕ} (h : i = 0) : i * n + x = x := by rw [h]; omega

end Cert.KernelIdeal.Gen.Conv
-- ==== Proof.Array0.lean ====
/- What call 0 leaves in its output array: the convolution of scenes 0 to 3, the other scenes as before. -/
module

public import proofs.«01_k».proof.Proof.Gen.KernelIdeal.Points
public import proofs.«01_k».proof.Proof.Runs
public import proofs.«01_k».proof.Proof.Coords

@[expose] public section

set_option maxRecDepth 16384

noncomputable section

namespace Cert.KernelIdeal.Gen

open Idealize.ShloMosaic Idealize.ShloMosaic.TcCoe Cert.KernelIdeal Idealize.ShloMosaic.Pointwise
open Idealize.ShloMosaic.Pipeline (Dat Cfg Window)

variable (V : (c : Dev nD) → (b : Ref sig .tc) → Buf (Elt Ideal) ((c : Thread nD τ).loc b))

/-! ## The block indices at each grid point (decided) -/

theorem idx0_0 : ∀ (t : Fin grid0.N) (a : Fin 5), win0_0.index t a = ![t.val / 32, 0, t.val % 32, 0, 0] a := by decide +kernel
theorem idx0_1 : ∀ (t : Fin grid0.N) (a : Fin 4), win0_1.index t a = ![t.val / 32 + 0, t.val % 32, 0, 0] a := by decide +kernel
theorem idx0_2 : ∀ (t : Fin grid0.N) (a : Fin 5), win0_2.index t a = ![t.val / 32, 0, t.val % 32, 0, 0] a := by decide +kernel
theorem idx0_3 : ∀ (t : Fin grid0.N) (a : Fin 3), win0_3.index t a = 0 := by decide +kernel
theorem idx0_4 : ∀ (t : Fin grid0.N) (a : Fin 3), win0_4.index t a = 0 := by decide +kernel
theorem idx0_5 : ∀ (t : Fin grid0.N) (a : Fin 2), win0_5.index t a = 0 := by decide +kernel
theorem idx0_6 : ∀ (t : Fin grid0.N) (a : Fin 3), win0_6.index t a = ![t.val / 32 + 0, t.val % 32, 0] a := by decide +kernel

/-- The output block of the grid point of scene `s` and tile `q`. -/
theorem outsAt0_apply (c : Dev nD) (t : Fin cfg0.N) (s : Fin 4) (q : Fin 32) (ht : t.val = 32 * s.val + q.val) (n : Fin 24) (hn : n.val = s.val + 0)
    (v : Fin 4) (l : Fin 128) (o : Fin 256) :
    outsAt0 V c t (ix3 0 ⟨128 * v.val + l.val, by omega⟩ o) = Conv.convA (V c main_arg4) (V c main_arg0) (V c main_v3) (V c main_v0) (V c main_v2) (V c main_v4) s n q v l o := by
  unfold outsAt0
  rw [out0_canon]
  refine (Conv.canon_outPieces _ _ _ _ _ _ _ _ _ _ _ _ _ _ _ _ _ _ _ _ _).trans (Conv.blockB_eq ?_ ?_ ?_ ?_ ?_ ?_ v l o)
  · exact fun k v r l => congrArg (V c main_arg4) (funext fun a => Fin.ext ((Window.rect_emb_val win0_0 t _ a).trans (Conv.at_g ht (idx0_0 t) k v r l a)))
  · exact fun v r l => congrArg (V c main_arg0) (funext fun a => Fin.ext ((Window.rect_emb_val win0_1 t _ a).trans (Conv.at_x ht hn (idx0_1 t) v r l a)))
  · exact fun k v l => congrArg (V c main_v3) (funext fun a => Fin.ext ((Window.rect_emb_val win0_2 t _ a).trans (Conv.at_sg ht (idx0_2 t) k v l a)))
  · exact fun k o d => congrArg (V c main_v0) (funext fun a => Fin.ext ((Window.rect_emb_val win0_3 t _ a).trans (Conv.at_0 (idx0_3 t a))))
  · exact fun k o l => congrArg (V c main_v2) (funext fun a => Fin.ext ((Window.rect_emb_val win0_4 t _ a).trans (Conv.at_0 (idx0_4 t a))))
  · exact fun o => congrArg (V c main_v4) (funext fun a => Fin.ext ((Window.rect_emb_val win0_5 t _ a).trans (Conv.at_0 (idx0_5 t a))))

/-- Where an element of the output block sits in the array. -/
theorem emb0_6 (t : Fin cfg0.N) (s : Fin 4) (q : Fin 32) (ht : t.val = 32 * s.val + q.val) (n : Fin 24) (hn : n.val = s.val + 0) (p : Fin 512) (o : Fin 256) :
    ((cfg0.win 6).blk t).view.emb (ix3 0 p o : S1x512x256.Idx) = (ix3 n ⟨512 * q.val + p.val, by omega⟩ o : S24x16384x256.Idx) :=
  funext fun a => Fin.ext ((Window.rect_emb_val win0_6 t _ a).trans (Conv.at_y ht hn (idx0_6 t) p o a))

/-- The output block of a grid point, as a block of the array. -/
theorem outsAt0_convG (c : Dev nD) (t : Fin cfg0.N) (s : Fin 4) (q : Fin 32) (ht : t.val = 32 * s.val + q.val) (n : Fin 24) (hn : n.val = s.val + 0)
    (p : Fin 512) (o : Fin 256) :
    outsAt0 V c t (ix3 0 p o) = Conv.convG (V c main_arg4) (V c main_arg0) (V c main_v3) (V c main_v0) (V c main_v2) (V c main_v4) (ix3 n ⟨512 * q.val + p.val, by omega⟩ o) := by
  obtain ⟨v, l, rfl⟩ := Conv.exists_lane p
  exact (outsAt0_apply V c t s q ht n hn v l o).trans (Conv.convG_apply _ _ _ _ _ _ s n (by omega) q v l o _ rfl rfl rfl).symm

/-- What a grid point writes back is its block of the convolution. -/
theorem flushed0 (c : Dev nD) (t : Fin cfg0.N) :
    (dat0 V c).flushed 6 t = ((cfg0.win 6).blk t).view.read (Elt Ideal) (Conv.convG (V c main_arg4) (V c main_arg0) (V c main_v3) (V c main_v0) (V c main_v2) (V c main_v4) : S24x16384x256.Idx → Ideal .f32) := by
  obtain ⟨s, q, ht⟩ := Conv.exists_tile t.val t.isLt
  funext y
  obtain ⟨p, o, rfl⟩ := Conv.exists_ix3 y
  have hn : (⟨s.val + 0, by omega⟩ : Fin 24).val = s.val + 0 := rfl
  exact (congrFun (after0_6 V c t) _).trans ((outsAt0_convG V c t s q ht _ hn p o).trans
    (congrArg (Conv.convG (V c main_arg4) (V c main_arg0) (V c main_v3) (V c main_v0) (V c main_v2) (V c main_v4)) (emb0_6 t s q ht _ hn p o).symm))

/-- Every index of the scenes the call writes is in some grid point's block. -/
theorem cover0 (i : S24x16384x256.Idx) (h : (i 0).val / 4 = 0) : ∃ t : Fin cfg0.N, i ∈ ((cfg0.win 6).blk t).view.set := by
  have h0 : (i 0).val < 24 := (i 0).isLt
  have h1 : (i 1).val < 16384 := (i 1).isLt
  have hN : 32 * ((i 0).val - 0) + (i 1).val / 512 < cfg0.N := by show _ < 128; omega
  exact ⟨⟨_, hN⟩, Finset.mem_map.mpr ⟨_, Finset.mem_univ _, (emb0_6 ⟨_, hN⟩ ⟨(i 0).val - 0, by omega⟩ ⟨(i 1).val / 512, by omega⟩ rfl (i 0)
    (by show (i 0).val = (i 0).val - 0 + 0; omega) ⟨(i 1).val % 512, by omega⟩ (i 2)).trans (Conv.tile_eq i).symm⟩⟩

/-- The array call 0 leaves, at an index. -/
theorem array0 (c : Dev nD) (i : S24x16384x256.Idx) :
    ((dat0 V c).arrAt 6 cfg0.N : S24x16384x256.Idx → Ideal .f32) i
      = if (i 0).val / 4 = 0 then Conv.convG (V c main_arg4) (V c main_arg0) (V c main_v3) (V c main_v0) (V c main_v2) (V c main_v4) i else (V c main_v5 : S24x16384x256.Idx → Ideal .f32) i := by
  split_ifs with h
  · obtain ⟨t, ht⟩ := cover0 i h
    exact (dat0 V c).arrAt_apply_of_mem 6 _ (fun t _ => flushed0 V c t) cfg0.N t i t.isLt (flush0_6 t) ht
  · refine ((dat0 V c).arrAt_apply_of_forall_not_mem 6 cfg0.N i fun t _ _ hi => h ?_).trans (congrFun (A_eq0 V c 6) i)
    obtain ⟨y, rfl⟩ := View.exists_emb_of_mem_set _ hi
    have hN : t.val < 128 := t.isLt
    have e : ((((cfg0.win 6).blk t).view.emb y : S24x16384x256.Idx) 0).val = (t.val / 32 + 0) * 1 + (y 0).val :=
      (Window.rect_emb_val win0_6 t y 0).trans (by rw [idx0_6 t 0]; rfl)
    have hy : (y 0).val < 1 := (y 0).isLt
    omega

end Cert.KernelIdeal.Gen

end
-- ==== Proof.Array1.lean ====
/- What call 1 leaves in its output array: the convolution of scenes 4 to 7, the other scenes as before. -/
module

public import proofs.«01_k».proof.Proof.Gen.KernelIdeal.Points
public import proofs.«01_k».proof.Proof.Runs
public import proofs.«01_k».proof.Proof.Coords

@[expose] public section

set_option maxRecDepth 16384

noncomputable section

namespace Cert.KernelIdeal.Gen

open Idealize.ShloMosaic Idealize.ShloMosaic.TcCoe Cert.KernelIdeal Idealize.ShloMosaic.Pointwise
open Idealize.ShloMosaic.Pipeline (Dat Cfg Window)

variable (V : (c : Dev nD) → (b : Ref sig .tc) → Buf (Elt Ideal) ((c : Thread nD τ).loc b))

/-! ## The block indices at each grid point (decided) -/

theorem idx1_0 : ∀ (t : Fin grid1.N) (a : Fin 5), win1_0.index t a = ![t.val / 32, 0, t.val % 32, 0, 0] a := by decide +kernel
theorem idx1_1 : ∀ (t : Fin grid1.N) (a : Fin 4), win1_1.index t a = ![t.val / 32 + 4, t.val % 32, 0, 0] a := by decide +kernel
theorem idx1_2 : ∀ (t : Fin grid1.N) (a : Fin 5), win1_2.index t a = ![t.val / 32, 0, t.val % 32, 0, 0] a := by decide +kernel
theorem idx1_3 : ∀ (t : Fin grid1.N) (a : Fin 3), win1_3.index t a = 0 := by decide +kernel
theorem idx1_4 : ∀ (t : Fin grid1.N) (a : Fin 3), win1_4.index t a = 0 := by decide +kernel
theorem idx1_5 : ∀ (t : Fin grid1.N) (a : Fin 2), win1_5.index t a = 0 := by decide +kernel
theorem idx1_6 : ∀ (t : Fin grid1.N) (a : Fin 3), win1_6.index t a = ![t.val / 32 + 4, t.val % 32, 0] a := by decide +kernel

/-- The output block of the grid point of scene `s` and tile `q`. -/
theorem outsAt1_apply (c : Dev nD) (t : Fin cfg1.N) (s : Fin 4) (q : Fin 32) (ht : t.val = 32 * s.val + q.val) (n : Fin 24) (hn : n.val = s.val + 4)
    (v : Fin 4) (l : Fin 128) (o : Fin 256) :
    outsAt1 V c t (ix3 0 ⟨128 * v.val + l.val, by omega⟩ o) = Conv.convA (V c main_arg6) (V c main_arg0) (V c main_v6) (V c main_v0) (V c main_v2) (V c main_v7) s n q v l o := by
  unfold outsAt1
  rw [out1_canon]
  refine (Conv.canon_outPieces _ _ _ _ _ _ _ _ _ _ _ _ _ _ _ _ _ _ _ _ _).trans (Conv.blockB_eq ?_ ?_ ?_ ?_ ?_ ?_ v l o)
  · exact fun k v r l => congrArg (V c main_arg6) (funext fun a => Fin.ext ((Window.rect_emb_val win1_0 t _ a).trans (Conv.at_g ht (idx1_0 t) k v r l a)))
  · exact fun v r l => congrArg (V c main_arg0) (funext fun a => Fin.ext ((Window.rect_emb_val win1_1 t _ a).trans (Conv.at_x ht hn (idx1_1 t) v r l a)))
  · exact fun k v l => congrArg (V c main_v6) (funext fun a => Fin.ext ((Window.rect_emb_val win1_2 t _ a).trans (Conv.at_sg ht (idx1_2 t) k v l a)))
  · exact fun k o d => congrArg (V c main_v0) (funext fun a => Fin.ext ((Window.rect_emb_val win1_3 t _ a).trans (Conv.at_0 (idx1_3 t a))))
  · exact fun k o l => congrArg (V c main_v2) (funext fun a => Fin.ext ((Window.rect_emb_val win1_4 t _ a).trans (Conv.at_0 (idx1_4 t a))))
  · exact fun o => congrArg (V c main_v7) (funext fun a => Fin.ext ((Window.rect_emb_val win1_5 t _ a).trans (Conv.at_0 (idx1_5 t a))))

/-- Where an element of the output block sits in the array. -/
theorem emb1_6 (t : Fin cfg1.N) (s : Fin 4) (q : Fin 32) (ht : t.val = 32 * s.val + q.val) (n : Fin 24) (hn : n.val = s.val + 4) (p : Fin 512) (o : Fin 256) :
    ((cfg1.win 6).blk t).view.emb (ix3 0 p o : S1x512x256.Idx) = (ix3 n ⟨512 * q.val + p.val, by omega⟩ o : S24x16384x256.Idx) :=
  funext fun a => Fin.ext ((Window.rect_emb_val win1_6 t _ a).trans (Conv.at_y ht hn (idx1_6 t) p o a))

/-- The output block of a grid point, as a block of the array. -/
theorem outsAt1_convG (c : Dev nD) (t : Fin cfg1.N) (s : Fin 4) (q : Fin 32) (ht : t.val = 32 * s.val + q.val) (n : Fin 24) (hn : n.val = s.val + 4)
    (p : Fin 512) (o : Fin 256) :
    outsAt1 V c t (ix3 0 p o) = Conv.convG (V c main_arg6) (V c main_arg0) (V c main_v6) (V c main_v0) (V c main_v2) (V c main_v7) (ix3 n ⟨512 * q.val + p.val, by omega⟩ o) := by
  obtain ⟨v, l, rfl⟩ := Conv.exists_lane p
  exact (outsAt1_apply V c t s q ht n hn v l o).trans (Conv.convG_apply _ _ _ _ _ _ s n (by omega) q v l o _ rfl rfl rfl).symm

/-- What a grid point writes back is its block of the convolution. -/
theorem flushed1 (c : Dev nD) (t : Fin cfg1.N) :
    (dat1 V c).flushed 6 t = ((cfg1.win 6).blk t).view.read (Elt Ideal) (Conv.convG (V c main_arg6) (V c main_arg0) (V c main_v6) (V c main_v0) (V c main_v2) (V c main_v7) : S24x16384x256.Idx → Ideal .f32) := by
  obtain ⟨s, q, ht⟩ := Conv.exists_tile t.val t.isLt
  funext y
  obtain ⟨p, o, rfl⟩ := Conv.exists_ix3 y
  have hn : (⟨s.val + 4, by omega⟩ : Fin 24).val = s.val + 4 := rfl
  exact (congrFun (after1_6 V c t) _).trans ((outsAt1_convG V c t s q ht _ hn p o).trans
    (congrArg (Conv.convG (V c main_arg6) (V c main_arg0) (V c main_v6) (V c main_v0) (V c main_v2) (V c main_v7)) (emb1_6 t s q ht _ hn p o).symm))

/-- Every index of the scenes the call writes is in some grid point's block. -/
theorem cover1 (i : S24x16384x256.Idx) (h : (i 0).val / 4 = 1) : ∃ t : Fin cfg1.N, i ∈ ((cfg1.win 6).blk t).view.set := by
  have h0 : (i 0).val < 24 := (i 0).isLt
  have h1 : (i 1).val < 16384 := (i 1).isLt
  have hN : 32 * ((i 0).val - 4) + (i 1).val / 512 < cfg1.N := by show _ < 128; omega
  exact ⟨⟨_, hN⟩, Finset.mem_map.mpr ⟨_, Finset.mem_univ _, (emb1_6 ⟨_, hN⟩ ⟨(i 0).val - 4, by omega⟩ ⟨(i 1).val / 512, by omega⟩ rfl (i 0)
    (by show (i 0).val = (i 0).val - 4 + 4; omega) ⟨(i 1).val % 512, by omega⟩ (i 2)).trans (Conv.tile_eq i).symm⟩⟩

/-- The array call 1 leaves, at an index. -/
theorem array1 (c : Dev nD) (i : S24x16384x256.Idx) :
    ((dat1 V c).arrAt 6 cfg1.N : S24x16384x256.Idx → Ideal .f32) i
      = if (i 0).val / 4 = 1 then Conv.convG (V c main_arg6) (V c main_arg0) (V c main_v6) (V c main_v0) (V c main_v2) (V c main_v7) i else (V c main_v8 : S24x16384x256.Idx → Ideal .f32) i := by
  split_ifs with h
  · obtain ⟨t, ht⟩ := cover1 i h
    exact (dat1 V c).arrAt_apply_of_mem 6 _ (fun t _ => flushed1 V c t) cfg1.N t i t.isLt (flush1_6 t) ht
  · refine ((dat1 V c).arrAt_apply_of_forall_not_mem 6 cfg1.N i fun t _ _ hi => h ?_).trans (congrFun (A_eq1 V c 6) i)
    obtain ⟨y, rfl⟩ := View.exists_emb_of_mem_set _ hi
    have hN : t.val < 128 := t.isLt
    have e : ((((cfg1.win 6).blk t).view.emb y : S24x16384x256.Idx) 0).val = (t.val / 32 + 4) * 1 + (y 0).val :=
      (Window.rect_emb_val win1_6 t y 0).trans (by rw [idx1_6 t 0]; rfl)
    have hy : (y 0).val < 1 := (y 0).isLt
    omega

end Cert.KernelIdeal.Gen

end
-- ==== Proof.Array2.lean ====
/- What call 2 leaves in its output array: the convolution of scenes 8 to 11, the other scenes as before. -/
module

public import proofs.«01_k».proof.Proof.Gen.KernelIdeal.Points
public import proofs.«01_k».proof.Proof.Runs
public import proofs.«01_k».proof.Proof.Coords

@[expose] public section

set_option maxRecDepth 16384

noncomputable section

namespace Cert.KernelIdeal.Gen

open Idealize.ShloMosaic Idealize.ShloMosaic.TcCoe Cert.KernelIdeal Idealize.ShloMosaic.Pointwise
open Idealize.ShloMosaic.Pipeline (Dat Cfg Window)

variable (V : (c : Dev nD) → (b : Ref sig .tc) → Buf (Elt Ideal) ((c : Thread nD τ).loc b))

/-! ## The block indices at each grid point (decided) -/

theorem idx2_0 : ∀ (t : Fin grid2.N) (a : Fin 5), win2_0.index t a = ![t.val / 32, 0, t.val % 32, 0, 0] a := by decide +kernel
theorem idx2_1 : ∀ (t : Fin grid2.N) (a : Fin 4), win2_1.index t a = ![t.val / 32 + 8, t.val % 32, 0, 0] a := by decide +kernel
theorem idx2_2 : ∀ (t : Fin grid2.N) (a : Fin 5), win2_2.index t a = ![t.val / 32, 0, t.val % 32, 0, 0] a := by decide +kernel
theorem idx2_3 : ∀ (t : Fin grid2.N) (a : Fin 3), win2_3.index t a = 0 := by decide +kernel
theorem idx2_4 : ∀ (t : Fin grid2.N) (a : Fin 3), win2_4.index t a = 0 := by decide +kernel
theorem idx2_5 : ∀ (t : Fin grid2.N) (a : Fin 2), win2_5.index t a = 0 := by decide +kernel
theorem idx2_6 : ∀ (t : Fin grid2.N) (a : Fin 3), win2_6.index t a = ![t.val / 32 + 8, t.val % 32, 0] a := by decide +kernel

/-- The output block of the grid point of scene `s` and tile `q`. -/
theorem outsAt2_apply (c : Dev nD) (t : Fin cfg2.N) (s : Fin 4) (q : Fin 32) (ht : t.val = 32 * s.val + q.val) (n : Fin 24) (hn : n.val = s.val + 8)
    (v : Fin 4) (l : Fin 128) (o : Fin 256) :
    outsAt2 V c t (ix3 0 ⟨128 * v.val + l.val, by omega⟩ o) = Conv.convA (V c main_arg8) (V c main_arg0) (V c main_v9) (V c main_v0) (V c main_v2) (V c main_v10) s n q v l o := by
  unfold outsAt2
  rw [out2_canon]
  refine (Conv.canon_outPieces _ _ _ _ _ _ _ _ _ _ _ _ _ _ _ _ _ _ _ _ _).trans (Conv.blockB_eq ?_ ?_ ?_ ?_ ?_ ?_ v l o)
  · exact fun k v r l => congrArg (V c main_arg8) (funext fun a => Fin.ext ((Window.rect_emb_val win2_0 t _ a).trans (Conv.at_g ht (idx2_0 t) k v r l a)))
  · exact fun v r l => congrArg (V c main_arg0) (funext fun a => Fin.ext ((Window.rect_emb_val win2_1 t _ a).trans (Conv.at_x ht hn (idx2_1 t) v r l a)))
  · exact fun k v l => congrArg (V c main_v9) (funext fun a => Fin.ext ((Window.rect_emb_val win2_2 t _ a).trans (Conv.at_sg ht (idx2_2 t) k v l a)))
  · exact fun k o d => congrArg (V c main_v0) (funext fun a => Fin.ext ((Window.rect_emb_val win2_3 t _ a).trans (Conv.at_0 (idx2_3 t a))))
  · exact fun k o l => congrArg (V c main_v2) (funext fun a => Fin.ext ((Window.rect_emb_val win2_4 t _ a).trans (Conv.at_0 (idx2_4 t a))))
  · exact fun o => congrArg (V c main_v10) (funext fun a => Fin.ext ((Window.rect_emb_val win2_5 t _ a).trans (Conv.at_0 (idx2_5 t a))))

/-- Where an element of the output block sits in the array. -/
theorem emb2_6 (t : Fin cfg2.N) (s : Fin 4) (q : Fin 32) (ht : t.val = 32 * s.val + q.val) (n : Fin 24) (hn : n.val = s.val + 8) (p : Fin 512) (o : Fin 256) :
    ((cfg2.win 6).blk t).view.emb (ix3 0 p o : S1x512x256.Idx) = (ix3 n ⟨512 * q.val + p.val, by omega⟩ o : S24x16384x256.Idx) :=
  funext fun a => Fin.ext ((Window.rect_emb_val win2_6 t _ a).trans (Conv.at_y ht hn (idx2_6 t) p o a))

/-- The output block of a grid point, as a block of the array. -/
theorem outsAt2_convG (c : Dev nD) (t : Fin cfg2.N) (s : Fin 4) (q : Fin 32) (ht : t.val = 32 * s.val + q.val) (n : Fin 24) (hn : n.val = s.val + 8)
    (p : Fin 512) (o : Fin 256) :
    outsAt2 V c t (ix3 0 p o) = Conv.convG (V c main_arg8) (V c main_arg0) (V c main_v9) (V c main_v0) (V c main_v2) (V c main_v10) (ix3 n ⟨512 * q.val + p.val, by omega⟩ o) := by
  obtain ⟨v, l, rfl⟩ := Conv.exists_lane p
  exact (outsAt2_apply V c t s q ht n hn v l o).trans (Conv.convG_apply _ _ _ _ _ _ s n (by omega) q v l o _ rfl rfl rfl).symm

/-- What a grid point writes back is its block of the convolution. -/
theorem flushed2 (c : Dev nD) (t : Fin cfg2.N) :
    (dat2 V c).flushed 6 t = ((cfg2.win 6).blk t).view.read (Elt Ideal) (Conv.convG (V c main_arg8) (V c main_arg0) (V c main_v9) (V c main_v0) (V c main_v2) (V c main_v10) : S24x16384x256.Idx → Ideal .f32) := by
  obtain ⟨s, q, ht⟩ := Conv.exists_tile t.val t.isLt
  funext y
  obtain ⟨p, o, rfl⟩ := Conv.exists_ix3 y
  have hn : (⟨s.val + 8, by omega⟩ : Fin 24).val = s.val + 8 := rfl
  exact (congrFun (after2_6 V c t) _).trans ((outsAt2_convG V c t s q ht _ hn p o).trans
    (congrArg (Conv.convG (V c main_arg8) (V c main_arg0) (V c main_v9) (V c main_v0) (V c main_v2) (V c main_v10)) (emb2_6 t s q ht _ hn p o).symm))

/-- Every index of the scenes the call writes is in some grid point's block. -/
theorem cover2 (i : S24x16384x256.Idx) (h : (i 0).val / 4 = 2) : ∃ t : Fin cfg2.N, i ∈ ((cfg2.win 6).blk t).view.set := by
  have h0 : (i 0).val < 24 := (i 0).isLt
  have h1 : (i 1).val < 16384 := (i 1).isLt
  have hN : 32 * ((i 0).val - 8) + (i 1).val / 512 < cfg2.N := by show _ < 128; omega
  exact ⟨⟨_, hN⟩, Finset.mem_map.mpr ⟨_, Finset.mem_univ _, (emb2_6 ⟨_, hN⟩ ⟨(i 0).val - 8, by omega⟩ ⟨(i 1).val / 512, by omega⟩ rfl (i 0)
    (by show (i 0).val = (i 0).val - 8 + 8; omega) ⟨(i 1).val % 512, by omega⟩ (i 2)).trans (Conv.tile_eq i).symm⟩⟩

/-- The array call 2 leaves, at an index. -/
theorem array2 (c : Dev nD) (i : S24x16384x256.Idx) :
    ((dat2 V c).arrAt 6 cfg2.N : S24x16384x256.Idx → Ideal .f32) i
      = if (i 0).val / 4 = 2 then Conv.convG (V c main_arg8) (V c main_arg0) (V c main_v9) (V c main_v0) (V c main_v2) (V c main_v10) i else (V c main_v11 : S24x16384x256.Idx → Ideal .f32) i := by
  split_ifs with h
  · obtain ⟨t, ht⟩ := cover2 i h
    exact (dat2 V c).arrAt_apply_of_mem 6 _ (fun t _ => flushed2 V c t) cfg2.N t i t.isLt (flush2_6 t) ht
  · refine ((dat2 V c).arrAt_apply_of_forall_not_mem 6 cfg2.N i fun t _ _ hi => h ?_).trans (congrFun (A_eq2 V c 6) i)
    obtain ⟨y, rfl⟩ := View.exists_emb_of_mem_set _ hi
    have hN : t.val < 128 := t.isLt
    have e : ((((cfg2.win 6).blk t).view.emb y : S24x16384x256.Idx) 0).val = (t.val / 32 + 8) * 1 + (y 0).val :=
      (Window.rect_emb_val win2_6 t y 0).trans (by rw [idx2_6 t 0]; rfl)
    have hy : (y 0).val < 1 := (y 0).isLt
    omega

end Cert.KernelIdeal.Gen

end
-- ==== Proof.Array3.lean ====
/- What call 3 leaves in its output array: the convolution of scenes 12 to 15, the other scenes as before. -/
module

public import proofs.«01_k».proof.Proof.Gen.KernelIdeal.Points
public import proofs.«01_k».proof.Proof.Runs
public import proofs.«01_k».proof.Proof.Coords

@[expose] public section

set_option maxRecDepth 16384

noncomputable section

namespace Cert.KernelIdeal.Gen

open Idealize.ShloMosaic Idealize.ShloMosaic.TcCoe Cert.KernelIdeal Idealize.ShloMosaic.Pointwise
open Idealize.ShloMosaic.Pipeline (Dat Cfg Window)

variable (V : (c : Dev nD) → (b : Ref sig .tc) → Buf (Elt Ideal) ((c : Thread nD τ).loc b))

/-! ## The block indices at each grid point (decided) -/

theorem idx3_0 : ∀ (t : Fin grid3.N) (a : Fin 5), win3_0.index t a = ![t.val / 32, 0, t.val % 32, 0, 0] a := by decide +kernel
theorem idx3_1 : ∀ (t : Fin grid3.N) (a : Fin 4), win3_1.index t a = ![t.val / 32 + 12, t.val % 32, 0, 0] a := by decide +kernel
theorem idx3_2 : ∀ (t : Fin grid3.N) (a : Fin 5), win3_2.index t a = ![t.val / 32, 0, t.val % 32, 0, 0] a := by decide +kernel
theorem idx3_3 : ∀ (t : Fin grid3.N) (a : Fin 3), win3_3.index t a = 0 := by decide +kernel
theorem idx3_4 : ∀ (t : Fin grid3.N) (a : Fin 3), win3_4.index t a = 0 := by decide +kernel
theorem idx3_5 : ∀ (t : Fin grid3.N) (a : Fin 2), win3_5.index t a = 0 := by decide +kernel
theorem idx3_6 : ∀ (t : Fin grid3.N) (a : Fin 3), win3_6.index t a = ![t.val / 32 + 12, t.val % 32, 0] a := by decide +kernel

/-- The output block of the grid point of scene `s` and tile `q`. -/
theorem outsAt3_apply (c : Dev nD) (t : Fin cfg3.N) (s : Fin 4) (q : Fin 32) (ht : t.val = 32 * s.val + q.val) (n : Fin 24) (hn : n.val = s.val + 12)
    (v : Fin 4) (l : Fin 128) (o : Fin 256) :
    outsAt3 V c t (ix3 0 ⟨128 * v.val + l.val, by omega⟩ o) = Conv.convA (V c main_arg10) (V c main_arg0) (V c main_v12) (V c main_v0) (V c main_v2) (V c main_v13) s n q v l o := by
  unfold outsAt3
  rw [out3_canon]
  refine (Conv.canon_outPieces _ _ _ _ _ _ _ _ _ _ _ _ _ _ _ _ _ _ _ _ _).trans (Conv.blockB_eq ?_ ?_ ?_ ?_ ?_ ?_ v l o)
  · exact fun k v r l => congrArg (V c main_arg10) (funext fun a => Fin.ext ((Window.rect_emb_val win3_0 t _ a).trans (Conv.at_g ht (idx3_0 t) k v r l a)))
  · exact fun v r l => congrArg (V c main_arg0) (funext fun a => Fin.ext ((Window.rect_emb_val win3_1 t _ a).trans (Conv.at_x ht hn (idx3_1 t) v r l a)))
  · exact fun k v l => congrArg (V c main_v12) (funext fun a => Fin.ext ((Window.rect_emb_val win3_2 t _ a).trans (Conv.at_sg ht (idx3_2 t) k v l a)))
  · exact fun k o d => congrArg (V c main_v0) (funext fun a => Fin.ext ((Window.rect_emb_val win3_3 t _ a).trans (Conv.at_0 (idx3_3 t a))))
  · exact fun k o l => congrArg (V c main_v2) (funext fun a => Fin.ext ((Window.rect_emb_val win3_4 t _ a).trans (Conv.at_0 (idx3_4 t a))))
  · exact fun o => congrArg (V c main_v13) (funext fun a => Fin.ext ((Window.rect_emb_val win3_5 t _ a).trans (Conv.at_0 (idx3_5 t a))))

/-- Where an element of the output block sits in the array. -/
theorem emb3_6 (t : Fin cfg3.N) (s : Fin 4) (q : Fin 32) (ht : t.val = 32 * s.val + q.val) (n : Fin 24) (hn : n.val = s.val + 12) (p : Fin 512) (o : Fin 256) :
    ((cfg3.win 6).blk t).view.emb (ix3 0 p o : S1x512x256.Idx) = (ix3 n ⟨512 * q.val + p.val, by omega⟩ o : S24x16384x256.Idx) :=
  funext fun a => Fin.ext ((Window.rect_emb_val win3_6 t _ a).trans (Conv.at_y ht hn (idx3_6 t) p o a))

/-- The output block of a grid point, as a block of the array. -/
theorem outsAt3_convG (c : Dev nD) (t : Fin cfg3.N) (s : Fin 4) (q : Fin 32) (ht : t.val = 32 * s.val + q.val) (n : Fin 24) (hn : n.val = s.val + 12)
    (p : Fin 512) (o : Fin 256) :
    outsAt3 V c t (ix3 0 p o) = Conv.convG (V c main_arg10) (V c main_arg0) (V c main_v12) (V c main_v0) (V c main_v2) (V c main_v13) (ix3 n ⟨512 * q.val + p.val, by omega⟩ o) := by
  obtain ⟨v, l, rfl⟩ := Conv.exists_lane p
  exact (outsAt3_apply V c t s q ht n hn v l o).trans (Conv.convG_apply _ _ _ _ _ _ s n (by omega) q v l o _ rfl rfl rfl).symm

/-- What a grid point writes back is its block of the convolution. -/
theorem flushed3 (c : Dev nD) (t : Fin cfg3.N) :
    (dat3 V c).flushed 6 t = ((cfg3.win 6).blk t).view.read (Elt Ideal) (Conv.convG (V c main_arg10) (V c main_arg0) (V c main_v12) (V c main_v0) (V c main_v2) (V c main_v13) : S24x16384x256.Idx → Ideal .f32) := by
  obtain ⟨s, q, ht⟩ := Conv.exists_tile t.val t.isLt
  funext y
  obtain ⟨p, o, rfl⟩ := Conv.exists_ix3 y
  have hn : (⟨s.val + 12, by omega⟩ : Fin 24).val = s.val + 12 := rfl
  exact (congrFun (after3_6 V c t) _).trans ((outsAt3_convG V c t s q ht _ hn p o).trans
    (congrArg (Conv.convG (V c main_arg10) (V c main_arg0) (V c main_v12) (V c main_v0) (V c main_v2) (V c main_v13)) (emb3_6 t s q ht _ hn p o).symm))

/-- Every index of the scenes the call writes is in some grid point's block. -/
theorem cover3 (i : S24x16384x256.Idx) (h : (i 0).val / 4 = 3) : ∃ t : Fin cfg3.N, i ∈ ((cfg3.win 6).blk t).view.set := by
  have h0 : (i 0).val < 24 := (i 0).isLt
  have h1 : (i 1).val < 16384 := (i 1).isLt
  have hN : 32 * ((i 0).val - 12) + (i 1).val / 512 < cfg3.N := by show _ < 128; omega
  exact ⟨⟨_, hN⟩, Finset.mem_map.mpr ⟨_, Finset.mem_univ _, (emb3_6 ⟨_, hN⟩ ⟨(i 0).val - 12, by omega⟩ ⟨(i 1).val / 512, by omega⟩ rfl (i 0)
    (by show (i 0).val = (i 0).val - 12 + 12; omega) ⟨(i 1).val % 512, by omega⟩ (i 2)).trans (Conv.tile_eq i).symm⟩⟩

/-- The array call 3 leaves, at an index. -/
theorem array3 (c : Dev nD) (i : S24x16384x256.Idx) :
    ((dat3 V c).arrAt 6 cfg3.N : S24x16384x256.Idx → Ideal .f32) i
      = if (i 0).val / 4 = 3 then Conv.convG (V c main_arg10) (V c main_arg0) (V c main_v12) (V c main_v0) (V c main_v2) (V c main_v13) i else (V c main_v14 : S24x16384x256.Idx → Ideal .f32) i := by
  split_ifs with h
  · obtain ⟨t, ht⟩ := cover3 i h
    exact (dat3 V c).arrAt_apply_of_mem 6 _ (fun t _ => flushed3 V c t) cfg3.N t i t.isLt (flush3_6 t) ht
  · refine ((dat3 V c).arrAt_apply_of_forall_not_mem 6 cfg3.N i fun t _ _ hi => h ?_).trans (congrFun (A_eq3 V c 6) i)
    obtain ⟨y, rfl⟩ := View.exists_emb_of_mem_set _ hi
    have hN : t.val < 128 := t.isLt
    have e : ((((cfg3.win 6).blk t).view.emb y : S24x16384x256.Idx) 0).val = (t.val / 32 + 12) * 1 + (y 0).val :=
      (Window.rect_emb_val win3_6 t y 0).trans (by rw [idx3_6 t 0]; rfl)
    have hy : (y 0).val < 1 := (y 0).isLt
    omega

end Cert.KernelIdeal.Gen

end
-- ==== Proof.Array4.lean ====
/- What call 4 leaves in its output array: the convolution of scenes 16 to 19, the other scenes as before. -/
module

public import proofs.«01_k».proof.Proof.Gen.KernelIdeal.Points
public import proofs.«01_k».proof.Proof.Runs
public import proofs.«01_k».proof.Proof.Coords

@[expose] public section

set_option maxRecDepth 16384

noncomputable section

namespace Cert.KernelIdeal.Gen

open Idealize.ShloMosaic Idealize.ShloMosaic.TcCoe Cert.KernelIdeal Idealize.ShloMosaic.Pointwise
open Idealize.ShloMosaic.Pipeline (Dat Cfg Window)

variable (V : (c : Dev nD) → (b : Ref sig .tc) → Buf (Elt Ideal) ((c : Thread nD τ).loc b))

/-! ## The block indices at each grid point (decided) -/

theorem idx4_0 : ∀ (t : Fin grid4.N) (a : Fin 5), win4_0.index t a = ![t.val / 32, 0, t.val % 32, 0, 0] a := by decide +kernel
theorem idx4_1 : ∀ (t : Fin grid4.N) (a : Fin 4), win4_1.index t a = ![t.val / 32 + 16, t.val % 32, 0, 0] a := by decide +kernel
theorem idx4_2 : ∀ (t : Fin grid4.N) (a : Fin 5), win4_2.index t a = ![t.val / 32, 0, t.val % 32, 0, 0] a := by decide +kernel
theorem idx4_3 : ∀ (t : Fin grid4.N) (a : Fin 3), win4_3.index t a = 0 := by decide +kernel
theorem idx4_4 : ∀ (t : Fin grid4.N) (a : Fin 3), win4_4.index t a = 0 := by decide +kernel
theorem idx4_5 : ∀ (t : Fin grid4.N) (a : Fin 2), win4_5.index t a = 0 := by decide +kernel
theorem idx4_6 : ∀ (t : Fin grid4.N) (a : Fin 3), win4_6.index t a = ![t.val / 32 + 16, t.val % 32, 0] a := by decide +kernel

/-- The output block of the grid point of scene `s` and tile `q`. -/
theorem outsAt4_apply (c : Dev nD) (t : Fin cfg4.N) (s : Fin 4) (q : Fin 32) (ht : t.val = 32 * s.val + q.val) (n : Fin 24) (hn : n.val = s.val + 16)
    (v : Fin 4) (l : Fin 128) (o : Fin 256) :
    outsAt4 V c t (ix3 0 ⟨128 * v.val + l.val, by omega⟩ o) = Conv.convA (V c main_arg12) (V c main_arg0) (V c main_v15) (V c main_v0) (V c main_v2) (V c main_v16) s n q v l o := by
  unfold outsAt4
  rw [out4_canon]
  refine (Conv.canon_outPieces _ _ _ _ _ _ _ _ _ _ _ _ _ _ _ _ _ _ _ _ _).trans (Conv.blockB_eq ?_ ?_ ?_ ?_ ?_ ?_ v l o)
  · exact fun k v r l => congrArg (V c main_arg12) (funext fun a => Fin.ext ((Window.rect_emb_val win4_0 t _ a).trans (Conv.at_g ht (idx4_0 t) k v r l a)))
  · exact fun v r l => congrArg (V c main_arg0) (funext fun a => Fin.ext ((Window.rect_emb_val win4_1 t _ a).trans (Conv.at_x ht hn (idx4_1 t) v r l a)))
  · exact fun k v l => congrArg (V c main_v15) (funext fun a => Fin.ext ((Window.rect_emb_val win4_2 t _ a).trans (Conv.at_sg ht (idx4_2 t) k v l a)))
  · exact fun k o d => congrArg (V c main_v0) (funext fun a => Fin.ext ((Window.rect_emb_val win4_3 t _ a).trans (Conv.at_0 (idx4_3 t a))))
  · exact fun k o l => congrArg (V c main_v2) (funext fun a => Fin.ext ((Window.rect_emb_val win4_4 t _ a).trans (Conv.at_0 (idx4_4 t a))))
  · exact fun o => congrArg (V c main_v16) (funext fun a => Fin.ext ((Window.rect_emb_val win4_5 t _ a).trans (Conv.at_0 (idx4_5 t a))))

/-- Where an element of the output block sits in the array. -/
theorem emb4_6 (t : Fin cfg4.N) (s : Fin 4) (q : Fin 32) (ht : t.val = 32 * s.val + q.val) (n : Fin 24) (hn : n.val = s.val + 16) (p : Fin 512) (o : Fin 256) :
    ((cfg4.win 6).blk t).view.emb (ix3 0 p o : S1x512x256.Idx) = (ix3 n ⟨512 * q.val + p.val, by omega⟩ o : S24x16384x256.Idx) :=
  funext fun a => Fin.ext ((Window.rect_emb_val win4_6 t _ a).trans (Conv.at_y ht hn (idx4_6 t) p o a))

/-- The output block of a grid point, as a block of the array. -/
theorem outsAt4_convG (c : Dev nD) (t : Fin cfg4.N) (s : Fin 4) (q : Fin 32) (ht : t.val = 32 * s.val + q.val) (n : Fin 24) (hn : n.val = s.val + 16)
    (p : Fin 512) (o : Fin 256) :
    outsAt4 V c t (ix3 0 p o) = Conv.convG (V c main_arg12) (V c main_arg0) (V c main_v15) (V c main_v0) (V c main_v2) (V c main_v16) (ix3 n ⟨512 * q.val + p.val, by omega⟩ o) := by
  obtain ⟨v, l, rfl⟩ := Conv.exists_lane p
  exact (outsAt4_apply V c t s q ht n hn v l o).trans (Conv.convG_apply _ _ _ _ _ _ s n (by omega) q v l o _ rfl rfl rfl).symm

/-- What a grid point writes back is its block of the convolution. -/
theorem flushed4 (c : Dev nD) (t : Fin cfg4.N) :
    (dat4 V c).flushed 6 t = ((cfg4.win 6).blk t).view.read (Elt Ideal) (Conv.convG (V c main_arg12) (V c main_arg0) (V c main_v15) (V c main_v0) (V c main_v2) (V c main_v16) : S24x16384x256.Idx → Ideal .f32) := by
  obtain ⟨s, q, ht⟩ := Conv.exists_tile t.val t.isLt
  funext y
  obtain ⟨p, o, rfl⟩ := Conv.exists_ix3 y
  have hn : (⟨s.val + 16, by omega⟩ : Fin 24).val = s.val + 16 := rfl
  exact (congrFun (after4_6 V c t) _).trans ((outsAt4_convG V c t s q ht _ hn p o).trans
    (congrArg (Conv.convG (V c main_arg12) (V c main_arg0) (V c main_v15) (V c main_v0) (V c main_v2) (V c main_v16)) (emb4_6 t s q ht _ hn p o).symm))

/-- Every index of the scenes the call writes is in some grid point's block. -/
theorem cover4 (i : S24x16384x256.Idx) (h : (i 0).val / 4 = 4) : ∃ t : Fin cfg4.N, i ∈ ((cfg4.win 6).blk t).view.set := by
  have h0 : (i 0).val < 24 := (i 0).isLt
  have h1 : (i 1).val < 16384 := (i 1).isLt
  have hN : 32 * ((i 0).val - 16) + (i 1).val / 512 < cfg4.N := by show _ < 128; omega
  exact ⟨⟨_, hN⟩, Finset.mem_map.mpr ⟨_, Finset.mem_univ _, (emb4_6 ⟨_, hN⟩ ⟨(i 0).val - 16, by omega⟩ ⟨(i 1).val / 512, by omega⟩ rfl (i 0)
    (by show (i 0).val = (i 0).val - 16 + 16; omega) ⟨(i 1).val % 512, by omega⟩ (i 2)).trans (Conv.tile_eq i).symm⟩⟩

/-- The array call 4 leaves, at an index. -/
theorem array4 (c : Dev nD) (i : S24x16384x256.Idx) :
    ((dat4 V c).arrAt 6 cfg4.N : S24x16384x256.Idx → Ideal .f32) i
      = if (i 0).val / 4 = 4 then Conv.convG (V c main_arg12) (V c main_arg0) (V c main_v15) (V c main_v0) (V c main_v2) (V c main_v16) i else (V c main_v17 : S24x16384x256.Idx → Ideal .f32) i := by
  split_ifs with h
  · obtain ⟨t, ht⟩ := cover4 i h
    exact (dat4 V c).arrAt_apply_of_mem 6 _ (fun t _ => flushed4 V c t) cfg4.N t i t.isLt (flush4_6 t) ht
  · refine ((dat4 V c).arrAt_apply_of_forall_not_mem 6 cfg4.N i fun t _ _ hi => h ?_).trans (congrFun (A_eq4 V c 6) i)
    obtain ⟨y, rfl⟩ := View.exists_emb_of_mem_set _ hi
    have hN : t.val < 128 := t.isLt
    have e : ((((cfg4.win 6).blk t).view.emb y : S24x16384x256.Idx) 0).val = (t.val / 32 + 16) * 1 + (y 0).val :=
      (Window.rect_emb_val win4_6 t y 0).trans (by rw [idx4_6 t 0]; rfl)
    have hy : (y 0).val < 1 := (y 0).isLt
    omega

end Cert.KernelIdeal.Gen

end
-- ==== Proof.Array5.lean ====
/- What call 5 leaves in its output array: the convolution of scenes 20 to 23, the other scenes as before. -/
module

public import proofs.«01_k».proof.Proof.Gen.KernelIdeal.Points
public import proofs.«01_k».proof.Proof.Runs
public import proofs.«01_k».proof.Proof.Coords

@[expose] public section

set_option maxRecDepth 16384

noncomputable section

namespace Cert.KernelIdeal.Gen

open Idealize.ShloMosaic Idealize.ShloMosaic.TcCoe Cert.KernelIdeal Idealize.ShloMosaic.Pointwise
open Idealize.ShloMosaic.Pipeline (Dat Cfg Window)

variable (V : (c : Dev nD) → (b : Ref sig .tc) → Buf (Elt Ideal) ((c : Thread nD τ).loc b))

/-! ## The block indices at each grid point (decided) -/

theorem idx5_0 : ∀ (t : Fin grid5.N) (a : Fin 5), win5_0.index t a = ![t.val / 32, 0, t.val % 32, 0, 0] a := by decide +kernel
theorem idx5_1 : ∀ (t : Fin grid5.N) (a : Fin 4), win5_1.index t a = ![t.val / 32 + 20, t.val % 32, 0, 0] a := by decide +kernel
theorem idx5_2 : ∀ (t : Fin grid5.N) (a : Fin 5), win5_2.index t a = ![t.val / 32, 0, t.val % 32, 0, 0] a := by decide +kernel
theorem idx5_3 : ∀ (t : Fin grid5.N) (a : Fin 3), win5_3.index t a = 0 := by decide +kernel
theorem idx5_4 : ∀ (t : Fin grid5.N) (a : Fin 3), win5_4.index t a = 0 := by decide +kernel
theorem idx5_5 : ∀ (t : Fin grid5.N) (a : Fin 2), win5_5.index t a = 0 := by decide +kernel
theorem idx5_6 : ∀ (t : Fin grid5.N) (a : Fin 3), win5_6.index t a = ![t.val / 32 + 20, t.val % 32, 0] a := by decide +kernel

/-- The output block of the grid point of scene `s` and tile `q`. -/
theorem outsAt5_apply (c : Dev nD) (t : Fin cfg5.N) (s : Fin 4) (q : Fin 32) (ht : t.val = 32 * s.val + q.val) (n : Fin 24) (hn : n.val = s.val + 20)
    (v : Fin 4) (l : Fin 128) (o : Fin 256) :
    outsAt5 V c t (ix3 0 ⟨128 * v.val + l.val, by omega⟩ o) = Conv.convA (V c main_arg14) (V c main_arg0) (V c main_v18) (V c main_v0) (V c main_v2) (V c main_v19) s n q v l o := by
  unfold outsAt5
  rw [out5_canon]
  refine (Conv.canon_outPieces _ _ _ _ _ _ _ _ _ _ _ _ _ _ _ _ _ _ _ _ _).trans (Conv.blockB_eq ?_ ?_ ?_ ?_ ?_ ?_ v l o)
  · exact fun k v r l => congrArg (V c main_arg14) (funext fun a => Fin.ext ((Window.rect_emb_val win5_0 t _ a).trans (Conv.at_g ht (idx5_0 t) k v r l a)))
  · exact fun v r l => congrArg (V c main_arg0) (funext fun a => Fin.ext ((Window.rect_emb_val win5_1 t _ a).trans (Conv.at_x ht hn (idx5_1 t) v r l a)))
  · exact fun k v l => congrArg (V c main_v18) (funext fun a => Fin.ext ((Window.rect_emb_val win5_2 t _ a).trans (Conv.at_sg ht (idx5_2 t) k v l a)))
  · exact fun k o d => congrArg (V c main_v0) (funext fun a => Fin.ext ((Window.rect_emb_val win5_3 t _ a).trans (Conv.at_0 (idx5_3 t a))))
  · exact fun k o l => congrArg (V c main_v2) (funext fun a => Fin.ext ((Window.rect_emb_val win5_4 t _ a).trans (Conv.at_0 (idx5_4 t a))))
  · exact fun o => congrArg (V c main_v19) (funext fun a => Fin.ext ((Window.rect_emb_val win5_5 t _ a).trans (Conv.at_0 (idx5_5 t a))))

/-- Where an element of the output block sits in the array. -/
theorem emb5_6 (t : Fin cfg5.N) (s : Fin 4) (q : Fin 32) (ht : t.val = 32 * s.val + q.val) (n : Fin 24) (hn : n.val = s.val + 20) (p : Fin 512) (o : Fin 256) :
    ((cfg5.win 6).blk t).view.emb (ix3 0 p o : S1x512x256.Idx) = (ix3 n ⟨512 * q.val + p.val, by omega⟩ o : S24x16384x256.Idx) :=
  funext fun a => Fin.ext ((Window.rect_emb_val win5_6 t _ a).trans (Conv.at_y ht hn (idx5_6 t) p o a))

/-- The output block of a grid point, as a block of the array. -/
theorem outsAt5_convG (c : Dev nD) (t : Fin cfg5.N) (s : Fin 4) (q : Fin 32) (ht : t.val = 32 * s.val + q.val) (n : Fin 24) (hn : n.val = s.val + 20)
    (p : Fin 512) (o : Fin 256) :
    outsAt5 V c t (ix3 0 p o) = Conv.convG (V c main_arg14) (V c main_arg0) (V c main_v18) (V c main_v0) (V c main_v2) (V c main_v19) (ix3 n ⟨512 * q.val + p.val, by omega⟩ o) := by
  obtain ⟨v, l, rfl⟩ := Conv.exists_lane p
  exact (outsAt5_apply V c t s q ht n hn v l o).trans (Conv.convG_apply _ _ _ _ _ _ s n (by omega) q v l o _ rfl rfl rfl).symm

/-- What a grid point writes back is its block of the convolution. -/
theorem flushed5 (c : Dev nD) (t : Fin cfg5.N) :
    (dat5 V c).flushed 6 t = ((cfg5.win 6).blk t).view.read (Elt Ideal) (Conv.convG (V c main_arg14) (V c main_arg0) (V c main_v18) (V c main_v0) (V c main_v2) (V c main_v19) : S24x16384x256.Idx → Ideal .f32) := by
  obtain ⟨s, q, ht⟩ := Conv.exists_tile t.val t.isLt
  funext y
  obtain ⟨p, o, rfl⟩ := Conv.exists_ix3 y
  have hn : (⟨s.val + 20, by omega⟩ : Fin 24).val = s.val + 20 := rfl
  exact (congrFun (after5_6 V c t) _).trans ((outsAt5_convG V c t s q ht _ hn p o).trans
    (congrArg (Conv.convG (V c main_arg14) (V c main_arg0) (V c main_v18) (V c main_v0) (V c main_v2) (V c main_v19)) (emb5_6 t s q ht _ hn p o).symm))

/-- Every index of the scenes the call writes is in some grid point's block. -/
theorem cover5 (i : S24x16384x256.Idx) (h : (i 0).val / 4 = 5) : ∃ t : Fin cfg5.N, i ∈ ((cfg5.win 6).blk t).view.set := by
  have h0 : (i 0).val < 24 := (i 0).isLt
  have h1 : (i 1).val < 16384 := (i 1).isLt
  have hN : 32 * ((i 0).val - 20) + (i 1).val / 512 < cfg5.N := by show _ < 128; omega
  exact ⟨⟨_, hN⟩, Finset.mem_map.mpr ⟨_, Finset.mem_univ _, (emb5_6 ⟨_, hN⟩ ⟨(i 0).val - 20, by omega⟩ ⟨(i 1).val / 512, by omega⟩ rfl (i 0)
    (by show (i 0).val = (i 0).val - 20 + 20; omega) ⟨(i 1).val % 512, by omega⟩ (i 2)).trans (Conv.tile_eq i).symm⟩⟩

/-- The array call 5 leaves, at an index. -/
theorem array5 (c : Dev nD) (i : S24x16384x256.Idx) :
    ((dat5 V c).arrAt 6 cfg5.N : S24x16384x256.Idx → Ideal .f32) i
      = if (i 0).val / 4 = 5 then Conv.convG (V c main_arg14) (V c main_arg0) (V c main_v18) (V c main_v0) (V c main_v2) (V c main_v19) i else (V c main_v20 : S24x16384x256.Idx → Ideal .f32) i := by
  split_ifs with h
  · obtain ⟨t, ht⟩ := cover5 i h
    exact (dat5 V c).arrAt_apply_of_mem 6 _ (fun t _ => flushed5 V c t) cfg5.N t i t.isLt (flush5_6 t) ht
  · refine ((dat5 V c).arrAt_apply_of_forall_not_mem 6 cfg5.N i fun t _ _ hi => h ?_).trans (congrFun (A_eq5 V c 6) i)
    obtain ⟨y, rfl⟩ := View.exists_emb_of_mem_set _ hi
    have hN : t.val < 128 := t.isLt
    have e : ((((cfg5.win 6).blk t).view.emb y : S24x16384x256.Idx) 0).val = (t.val / 32 + 20) * 1 + (y 0).val :=
      (Window.rect_emb_val win5_6 t y 0).trans (by rw [idx5_6 t 0]; rfl)
    have hy : (y 0).val < 1 := (y 0).isLt
    omega

end Cert.KernelIdeal.Gen

end
-- ==== Proof.Final.lean ====
/- The array the six calls leave: each scene's convolution, from the codes and scales of the scene's group. -/
module

public import proofs.«01_k».proof.Proof.Gen.KernelIdeal.Frame
public import proofs.«01_k».proof.Proof.Array0
public import proofs.«01_k».proof.Proof.Array1
public import proofs.«01_k».proof.Proof.Array2
public import proofs.«01_k».proof.Proof.Array3
public import proofs.«01_k».proof.Proof.Array4
public import proofs.«01_k».proof.Proof.Array5
public import Idealize.ShloMosaic.Lib.Pointwise
public import Idealize.ShloMosaic.Lib.StableHlo.ReadAt

@[expose] public section

set_option maxRecDepth 16384

noncomputable section

namespace Cert.KernelIdeal.Gen

open Idealize.ShloMosaic Idealize.ShloMosaic.TcCoe Cert.KernelIdeal Idealize.ShloMosaic.Pointwise
open Idealize.ShloMosaic.Pipeline (Dat Cfg Window)

variable (m : (ℓ : Loc nD τ sig) → Buf (Elt Ideal) ℓ) (ρ : Dev nD → PrngReg)

/-! ## What a call finds in its arrays -/

/-- The weights with their last two axes exchanged, as every call reads them. -/
def wT (w : Vec Ideal S27x128x256 .fp8e4m3) : Vec Ideal S27x256x128 .fp8e4m3 := transpose S27x256x128 [0, 2, 1] w transposes_S27x128x256_S27x256x128_0_2_1
/-- The weights' scales repeated along the lanes. -/
def wsT (s : Vec Ideal S27x256 .f32) : Vec Ideal S27x256x128 .f32 :=
  broadcastInDim S27x256x128 ![0, 1, 2] bcast_S27x256x1_S27x256x128_0_1_2 (broadcastInDim S27x256x1 ![0, 1] bcast_S27x256_S27x256x1_0_1 s)
/-- The gathered scales of a group cut into tiles, groups and lanes. -/
def sgT (s : Vec Ideal S4x27x16384 .f32) : Vec Ideal S4x27x32x4x128 .f32 := shapeCast S4x27x32x4x128 s shapeCasts_S4x27x16384_S4x27x32x4x128
/-- The bias as one row. -/
def bT (b : Vec Ideal S256 .f32) : Vec Ideal S1x256 .f32 := shapeCast S1x256 b shapeCasts_S256_S1x256

/-- What a call leaves at the scenes it writes, from the launch memory and its group's gathered codes and scales. -/
def outG (c : Dev nD) (g : Vec Ideal S4x26x128x32x128 .i32) (s : Vec Ideal S4x27x16384 .f32) : Vec Ideal S24x16384x256 .f32 :=
  Conv.convG g (m ((c : Thread nD τ).loc main_arg0)) (sgT s) (wT (m ((c : Thread nD τ).loc main_arg1))) (wsT (m ((c : Thread nD τ).loc main_arg2)))
    (bT (m ((c : Thread nD τ).loc main_arg3)))

/-- Equal operands give equal convolutions. -/
theorem convG_congr {g g' : Vec Ideal S4x26x128x32x128 .i32} {x x' : Vec Ideal S24x128x32x128 .i32} {s s' : Vec Ideal S4x27x32x4x128 .f32}
    {w w' : Vec Ideal S27x256x128 .fp8e4m3} {ws ws' : Vec Ideal S27x256x128 .f32} {b b' : Vec Ideal S1x256 .f32}
    (hg : g = g') (hx : x = x') (hs : s = s') (hw : w = w') (hws : ws = ws') (hb : b = b') : Conv.convG g x s w ws b = Conv.convG g' x' s' w' ws' b' := by
  subst hg hx hs hw hws hb
  rfl

/-- A call's array, with the call's operands named. -/
theorem array_named {a a' y y' : Ideal .f32} {f f' : Vec Ideal S24x16384x256 .f32} {i : S24x16384x256.Idx} {P : Prop} [Decidable P]
    (h : a' = if P then f i else y) (ha : a = a') (hf : f = f') (hy : y = y') : a = if P then f' i else y' := by
  subst ha hf hy
  exact h

/-! ## The contents at each call's entry -/

theorem W1_v0 (c : Dev nD) : W1 m ρ c (Proc.devRef .tc main_v0) = wT (m ((c : Thread nD τ).loc main_arg1)) := by
  show StableHlo.after hostOps0 (W0 m ρ c) _ = _
  after_reads_simp
  rfl
theorem W1_v2 (c : Dev nD) : W1 m ρ c (Proc.devRef .tc main_v2) = wsT (m ((c : Thread nD τ).loc main_arg2)) := by
  show StableHlo.after hostOps0 (W0 m ρ c) _ = _
  after_reads_simp
  rfl
theorem W1_sg (c : Dev nD) : W1 m ρ c (Proc.devRef .tc main_v3) = sgT (m ((c : Thread nD τ).loc main_arg5)) := by
  refine Eq.trans ?_ (congrArg (sgT ·) (W0_args m ρ c main_arg5 (by decide)))
  show StableHlo.after hostOps0 (W0 m ρ c) _ = _
  after_reads_simp
  rfl
theorem W1_b (c : Dev nD) : W1 m ρ c (Proc.devRef .tc main_v4) = bT (m ((c : Thread nD τ).loc main_arg3)) := by
  refine Eq.trans ?_ (congrArg (bT ·) (W0_args m ρ c main_arg3 (by decide)))
  show StableHlo.after hostOps0 (W0 m ρ c) _ = _
  after_reads_simp
  rfl
theorem W3_keep (c : Dev nD) (r : Ref sig .tc) (h : r ∉ hostOps1_W) (h' : ∀ w : Fin cfg0.W, Pipeline.arrRef spec0 w = r → (cfg0.win w).isOut = false) :
    W3 m ρ c (Proc.devRef .tc r) = W1 m ρ c (Proc.devRef .tc r) := (W3_of m ρ c r h).trans (W2_of m ρ c r h')
theorem W3_v0 (c : Dev nD) : W3 m ρ c (Proc.devRef .tc main_v0) = wT (m ((c : Thread nD τ).loc main_arg1)) :=
  (W3_keep m ρ c _ (by decide) (by decide)).trans (W1_v0 m ρ c)
theorem W3_v2 (c : Dev nD) : W3 m ρ c (Proc.devRef .tc main_v2) = wsT (m ((c : Thread nD τ).loc main_arg2)) :=
  (W3_keep m ρ c _ (by decide) (by decide)).trans (W1_v2 m ρ c)
theorem W3_sg (c : Dev nD) : W3 m ρ c (Proc.devRef .tc main_v6) = sgT (m ((c : Thread nD τ).loc main_arg7)) := by
  refine Eq.trans ?_ (congrArg (sgT ·) (W2_args m ρ c main_arg7 (by decide)))
  show StableHlo.after hostOps1 (W2 m ρ c) _ = _
  after_reads_simp
  rfl
theorem W3_b (c : Dev nD) : W3 m ρ c (Proc.devRef .tc main_v7) = bT (m ((c : Thread nD τ).loc main_arg3)) := by
  refine Eq.trans ?_ (congrArg (bT ·) (W2_args m ρ c main_arg3 (by decide)))
  show StableHlo.after hostOps1 (W2 m ρ c) _ = _
  after_reads_simp
  rfl
theorem W3_y (c : Dev nD) : W3 m ρ c (Proc.devRef .tc main_v8) = W2 m ρ c (Proc.devRef .tc main_v5) := by
  show StableHlo.after hostOps1 (W2 m ρ c) _ = _
  after_reads_simp
  rfl
theorem W5_keep (c : Dev nD) (r : Ref sig .tc) (h : r ∉ hostOps2_W) (h' : ∀ w : Fin cfg1.W, Pipeline.arrRef spec1 w = r → (cfg1.win w).isOut = false) :
    W5 m ρ c (Proc.devRef .tc r) = W3 m ρ c (Proc.devRef .tc r) := (W5_of m ρ c r h).trans (W4_of m ρ c r h')
theorem W5_v0 (c : Dev nD) : W5 m ρ c (Proc.devRef .tc main_v0) = wT (m ((c : Thread nD τ).loc main_arg1)) :=
  (W5_keep m ρ c _ (by decide) (by decide)).trans (W3_v0 m ρ c)
theorem W5_v2 (c : Dev nD) : W5 m ρ c (Proc.devRef .tc main_v2) = wsT (m ((c : Thread nD τ).loc main_arg2)) :=
  (W5_keep m ρ c _ (by decide) (by decide)).trans (W3_v2 m ρ c)
theorem W5_sg (c : Dev nD) : W5 m ρ c (Proc.devRef .tc main_v9) = sgT (m ((c : Thread nD τ).loc main_arg9)) := by
  refine Eq.trans ?_ (congrArg (sgT ·) (W4_args m ρ c main_arg9 (by decide)))
  show StableHlo.after hostOps2 (W4 m ρ c) _ = _
  after_reads_simp
  rfl
theorem W5_b (c : Dev nD) : W5 m ρ c (Proc.devRef .tc main_v10) = bT (m ((c : Thread nD τ).loc main_arg3)) := by
  refine Eq.trans ?_ (congrArg (bT ·) (W4_args m ρ c main_arg3 (by decide)))
  show StableHlo.after hostOps2 (W4 m ρ c) _ = _
  after_reads_simp
  rfl
theorem W5_y (c : Dev nD) : W5 m ρ c (Proc.devRef .tc main_v11) = W4 m ρ c (Proc.devRef .tc main_v8) := by
  show StableHlo.after hostOps2 (W4 m ρ c) _ = _
  after_reads_simp
  rfl
theorem W7_keep (c : Dev nD) (r : Ref sig .tc) (h : r ∉ hostOps3_W) (h' : ∀ w : Fin cfg2.W, Pipeline.arrRef spec2 w = r → (cfg2.win w).isOut = false) :
    W7 m ρ c (Proc.devRef .tc r) = W5 m ρ c (Proc.devRef .tc r) := (W7_of m ρ c r h).trans (W6_of m ρ c r h')
theorem W7_v0 (c : Dev nD) : W7 m ρ c (Proc.devRef .tc main_v0) = wT (m ((c : Thread nD τ).loc main_arg1)) :=
  (W7_keep m ρ c _ (by decide) (by decide)).trans (W5_v0 m ρ c)
theorem W7_v2 (c : Dev nD) : W7 m ρ c (Proc.devRef .tc main_v2) = wsT (m ((c : Thread nD τ).loc main_arg2)) :=
  (W7_keep m ρ c _ (by decide) (by decide)).trans (W5_v2 m ρ c)
theorem W7_sg (c : Dev nD) : W7 m ρ c (Proc.devRef .tc main_v12) = sgT (m ((c : Thread nD τ).loc main_arg11)) := by
  refine Eq.trans ?_ (congrArg (sgT ·) (W6_args m ρ c main_arg11 (by decide)))
  show StableHlo.after hostOps3 (W6 m ρ c) _ = _
  after_reads_simp
  rfl
theorem W7_b (c : Dev nD) : W7 m ρ c (Proc.devRef .tc main_v13) = bT (m ((c : Thread nD τ).loc main_arg3)) := by
  refine Eq.trans ?_ (congrArg (bT ·) (W6_args m ρ c main_arg3 (by decide)))
  show StableHlo.after hostOps3 (W6 m ρ c) _ = _
  after_reads_simp
  rfl
theorem W7_y (c : Dev nD) : W7 m ρ c (Proc.devRef .tc main_v14) = W6 m ρ c (Proc.devRef .tc main_v11) := by
  show StableHlo.after hostOps3 (W6 m ρ c) _ = _
  after_reads_simp
  rfl
theorem W9_keep (c : Dev nD) (r : Ref sig .tc) (h : r ∉ hostOps4_W) (h' : ∀ w : Fin cfg3.W, Pipeline.arrRef spec3 w = r → (cfg3.win w).isOut = false) :
    W9 m ρ c (Proc.devRef .tc r) = W7 m ρ c (Proc.devRef .tc r) := (W9_of m ρ c r h).trans (W8_of m ρ c r h')
theorem W9_v0 (c : Dev nD) : W9 m ρ c (Proc.devRef .tc main_v0) = wT (m ((c : Thread nD τ).loc main_arg1)) :=
  (W9_keep m ρ c _ (by decide) (by decide)).trans (W7_v0 m ρ c)
theorem W9_v2 (c : Dev nD) : W9 m ρ c (Proc.devRef .tc main_v2) = wsT (m ((c : Thread nD τ).loc main_arg2)) :=
  (W9_keep m ρ c _ (by decide) (by decide)).trans (W7_v2 m ρ c)
theorem W9_sg (c : Dev nD) : W9 m ρ c (Proc.devRef .tc main_v15) = sgT (m ((c : Thread nD τ).loc main_arg13)) := by
  refine Eq.trans ?_ (congrArg (sgT ·) (W8_args m ρ c main_arg13 (by decide)))
  show StableHlo.after hostOps4 (W8 m ρ c) _ = _
  after_reads_simp
  rfl
theorem W9_b (c : Dev nD) : W9 m ρ c (Proc.devRef .tc main_v16) = bT (m ((c : Thread nD τ).loc main_arg3)) := by
  refine Eq.trans ?_ (congrArg (bT ·) (W8_args m ρ c main_arg3 (by decide)))
  show StableHlo.after hostOps4 (W8 m ρ c) _ = _
  after_reads_simp
  rfl
theorem W9_y (c : Dev nD) : W9 m ρ c (Proc.devRef .tc main_v17) = W8 m ρ c (Proc.devRef .tc main_v14) := by
  show StableHlo.after hostOps4 (W8 m ρ c) _ = _
  after_reads_simp
  rfl
theorem W11_keep (c : Dev nD) (r : Ref sig .tc) (h : r ∉ hostOps5_W) (h' : ∀ w : Fin cfg4.W, Pipeline.arrRef spec4 w = r → (cfg4.win w).isOut = false) :
    W11 m ρ c (Proc.devRef .tc r) = W9 m ρ c (Proc.devRef .tc r) := (W11_of m ρ c r h).trans (W10_of m ρ c r h')
theorem W11_v0 (c : Dev nD) : W11 m ρ c (Proc.devRef .tc main_v0) = wT (m ((c : Thread nD τ).loc main_arg1)) :=
  (W11_keep m ρ c _ (by decide) (by decide)).trans (W9_v0 m ρ c)
theorem W11_v2 (c : Dev nD) : W11 m ρ c (Proc.devRef .tc main_v2) = wsT (m ((c : Thread nD τ).loc main_arg2)) :=
  (W11_keep m ρ c _ (by decide) (by decide)).trans (W9_v2 m ρ c)
theorem W11_sg (c : Dev nD) : W11 m ρ c (Proc.devRef .tc main_v18) = sgT (m ((c : Thread nD τ).loc main_arg15)) := by
  refine Eq.trans ?_ (congrArg (sgT ·) (W10_args m ρ c main_arg15 (by decide)))
  show StableHlo.after hostOps5 (W10 m ρ c) _ = _
  after_reads_simp
  rfl
theorem W11_b (c : Dev nD) : W11 m ρ c (Proc.devRef .tc main_v19) = bT (m ((c : Thread nD τ).loc main_arg3)) := by
  refine Eq.trans ?_ (congrArg (bT ·) (W10_args m ρ c main_arg3 (by decide)))
  show StableHlo.after hostOps5 (W10 m ρ c) _ = _
  after_reads_simp
  rfl
theorem W11_y (c : Dev nD) : W11 m ρ c (Proc.devRef .tc main_v20) = W10 m ρ c (Proc.devRef .tc main_v17) := by
  show StableHlo.after hostOps5 (W10 m ρ c) _ = _
  after_reads_simp
  rfl

/-! ## The array after each call -/

/-- After call 0: scenes 0 to 3 hold their convolution, the others what they held before. -/
theorem after_call0 (c : Dev nD) (i : S24x16384x256.Idx) :
    (W2 m ρ c (Proc.devRef .tc main_v5) : S24x16384x256.Idx → Ideal .f32) i
      = if (i 0).val / 4 = 0 then outG m c (m ((c : Thread nD τ).loc main_arg4)) (m ((c : Thread nD τ).loc main_arg5)) i
        else (W1 m ρ c (Proc.devRef .tc main_v5) : S24x16384x256.Idx → Ideal .f32) i :=
  array_named (array0 (V1 m ρ) c i) (congrFun (W2_arr m ρ c 6) i)
    (convG_congr (W1_args m ρ c main_arg4 (by decide)) (W1_args m ρ c main_arg0 (by decide)) (W1_sg m ρ c) (W1_v0 m ρ c) (W1_v2 m ρ c) (W1_b m ρ c)) (rfl)
/-- After call 1: scenes 4 to 7 hold their convolution, the others what they held before. -/
theorem after_call1 (c : Dev nD) (i : S24x16384x256.Idx) :
    (W4 m ρ c (Proc.devRef .tc main_v8) : S24x16384x256.Idx → Ideal .f32) i
      = if (i 0).val / 4 = 1 then outG m c (m ((c : Thread nD τ).loc main_arg6)) (m ((c : Thread nD τ).loc main_arg7)) i
        else (W2 m ρ c (Proc.devRef .tc main_v5) : S24x16384x256.Idx → Ideal .f32) i :=
  array_named (array1 (V3 m ρ) c i) (congrFun (W4_arr m ρ c 6) i)
    (convG_congr (W3_args m ρ c main_arg6 (by decide)) (W3_args m ρ c main_arg0 (by decide)) (W3_sg m ρ c) (W3_v0 m ρ c) (W3_v2 m ρ c) (W3_b m ρ c)) (congrFun (W3_y m ρ c) i)
/-- After call 2: scenes 8 to 11 hold their convolution, the others what they held before. -/
theorem after_call2 (c : Dev nD) (i : S24x16384x256.Idx) :
    (W6 m ρ c (Proc.devRef .tc main_v11) : S24x16384x256.Idx → Ideal .f32) i
      = if (i 0).val / 4 = 2 then outG m c (m ((c : Thread nD τ).loc main_arg8)) (m ((c : Thread nD τ).loc main_arg9)) i
        else (W4 m ρ c (Proc.devRef .tc main_v8) : S24x16384x256.Idx → Ideal .f32) i :=
  array_named (array2 (V5 m ρ) c i) (congrFun (W6_arr m ρ c 6) i)
    (convG_congr (W5_args m ρ c main_arg8 (by decide)) (W5_args m ρ c main_arg0 (by decide)) (W5_sg m ρ c) (W5_v0 m ρ c) (W5_v2 m ρ c) (W5_b m ρ c)) (congrFun (W5_y m ρ c) i)
/-- After call 3: scenes 12 to 15 hold their convolution, the others what they held before. -/
theorem after_call3 (c : Dev nD) (i : S24x16384x256.Idx) :
    (W8 m ρ c (Proc.devRef .tc main_v14) : S24x16384x256.Idx → Ideal .f32) i
      = if (i 0).val / 4 = 3 then outG m c (m ((c : Thread nD τ).loc main_arg10)) (m ((c : Thread nD τ).loc main_arg11)) i
        else (W6 m ρ c (Proc.devRef .tc main_v11) : S24x16384x256.Idx → Ideal .f32) i :=
  array_named (array3 (V7 m ρ) c i) (congrFun (W8_arr m ρ c 6) i)
    (convG_congr (W7_args m ρ c main_arg10 (by decide)) (W7_args m ρ c main_arg0 (by decide)) (W7_sg m ρ c) (W7_v0 m ρ c) (W7_v2 m ρ c) (W7_b m ρ c)) (congrFun (W7_y m ρ c) i)
/-- After call 4: scenes 16 to 19 hold their convolution, the others what they held before. -/
theorem after_call4 (c : Dev nD) (i : S24x16384x256.Idx) :
    (W10 m ρ c (Proc.devRef .tc main_v17) : S24x16384x256.Idx → Ideal .f32) i
      = if (i 0).val / 4 = 4 then outG m c (m ((c : Thread nD τ).loc main_arg12)) (m ((c : Thread nD τ).loc main_arg13)) i
        else (W8 m ρ c (Proc.devRef .tc main_v14) : S24x16384x256.Idx → Ideal .f32) i :=
  array_named (array4 (V9 m ρ) c i) (congrFun (W10_arr m ρ c 6) i)
    (convG_congr (W9_args m ρ c main_arg12 (by decide)) (W9_args m ρ c main_arg0 (by decide)) (W9_sg m ρ c) (W9_v0 m ρ c) (W9_v2 m ρ c) (W9_b m ρ c)) (congrFun (W9_y m ρ c) i)
/-- After call 5: scenes 20 to 23 hold their convolution, the others what they held before. -/
theorem after_call5 (c : Dev nD) (i : S24x16384x256.Idx) :
    (W12 m ρ c (Proc.devRef .tc main_v20) : S24x16384x256.Idx → Ideal .f32) i
      = if (i 0).val / 4 = 5 then outG m c (m ((c : Thread nD τ).loc main_arg14)) (m ((c : Thread nD τ).loc main_arg15)) i
        else (W10 m ρ c (Proc.devRef .tc main_v17) : S24x16384x256.Idx → Ideal .f32) i :=
  array_named (array5 (V11 m ρ) c i) (congrFun (W12_arr m ρ c 6) i)
    (convG_congr (W11_args m ρ c main_arg14 (by decide)) (W11_args m ρ c main_arg0 (by decide)) (W11_sg m ρ c) (W11_v0 m ρ c) (W11_v2 m ρ c) (W11_b m ρ c)) (congrFun (W11_y m ρ c) i)

/-- The gathered codes of scene group `j`. -/
def gAt (c : Dev nD) (j : ℕ) : Vec Ideal S4x26x128x32x128 .i32 :=
  match j with
  | 0 => m ((c : Thread nD τ).loc main_arg4)
  | 1 => m ((c : Thread nD τ).loc main_arg6)
  | 2 => m ((c : Thread nD τ).loc main_arg8)
  | 3 => m ((c : Thread nD τ).loc main_arg10)
  | 4 => m ((c : Thread nD τ).loc main_arg12)
  | _ => m ((c : Thread nD τ).loc main_arg14)
/-- The gathered scales of scene group `j`. -/
def sgAt (c : Dev nD) (j : ℕ) : Vec Ideal S4x27x16384 .f32 :=
  match j with
  | 0 => m ((c : Thread nD τ).loc main_arg5)
  | 1 => m ((c : Thread nD τ).loc main_arg7)
  | 2 => m ((c : Thread nD τ).loc main_arg9)
  | 3 => m ((c : Thread nD τ).loc main_arg11)
  | 4 => m ((c : Thread nD τ).loc main_arg13)
  | _ => m ((c : Thread nD τ).loc main_arg15)

/-- The result: every scene holds its convolution, from the gathered codes and scales of its group. -/
theorem result_apply (c : Dev nD) (i : S24x16384x256.Idx) :
    (W12 m ρ c (Proc.devRef .tc main_v20) : S24x16384x256.Idx → Ideal .f32) i = outG m c (gAt m c ((i 0).val / 4)) (sgAt m c ((i 0).val / 4)) i := by
  have h0 : (i 0).val < 24 := (i 0).isLt
  rw [after_call5, after_call4, after_call3, after_call2, after_call1, after_call0]
  obtain h | h | h | h | h | h : (i 0).val / 4 = 0 ∨ (i 0).val / 4 = 1 ∨ (i 0).val / 4 = 2 ∨ (i 0).val / 4 = 3 ∨ (i 0).val / 4 = 4 ∨ (i 0).val / 4 = 5 := by omega
  all_goals simp only [h, gAt, sgAt, if_true, if_false, reduceCtorEq, OfNat.ofNat_eq_ofNat, Nat.reduceEqDiff, OfNat.zero_ne_ofNat, OfNat.ofNat_ne_zero, zero_ne_one, one_ne_zero, OfNat.one_ne_ofNat, OfNat.ofNat_ne_one]

end Cert.KernelIdeal.Gen

end
-- ==== Proof.Host.lean ====
/- What the reference's host operations hand to its body: the codes and the scales, at an index. -/
module

public import proofs.«01_k».proof.Proof.Gen.ReferenceIdeal.Value
public import Idealize.ShloMosaic.Lib.Pointwise
public import Idealize.ShloMosaic.Lib.StableHlo.ReadAt

@[expose] public section

set_option maxRecDepth 16384

noncomputable section

namespace Cert.ReferenceIdeal.Value

open Cert.ReferenceIdeal Cert.ReferenceIdeal.Gen Idealize.ShloMosaic Idealize.ShloMosaic.TcCoe Idealize.ShloMosaic.Pointwise

variable (m : (ℓ : Loc nD τ sig) → Buf (Elt Ideal) ℓ)

/-- Six groups' gathered codes, one after the other. -/
def catG (g0 g1 g2 g3 g4 g5 : Vec Ideal S4x26x128x32x128 .i32) : Vec Ideal S24x26x128x32x128 .i32 :=
  concatenate S24x26x128x32x128 0 [⟨S4x26x128x32x128, g0⟩, ⟨S4x26x128x32x128, g1⟩, ⟨S4x26x128x32x128, g2⟩, ⟨S4x26x128x32x128, g3⟩, ⟨S4x26x128x32x128, g4⟩, ⟨S4x26x128x32x128, g5⟩]
    concatenates_S4x26x128x32x128_S4x26x128x32x128_S4x26x128x32x128_S4x26x128x32x128_S4x26x128x32x128_S4x26x128x32x128_S24x26x128x32x128_d0
/-- Six groups' gathered scales, one after the other. -/
def catS (s0 s1 s2 s3 s4 s5 : Vec Ideal S4x27x16384 .f32) : Vec Ideal S24x27x16384 .f32 :=
  concatenate S24x27x16384 0 [⟨S4x27x16384, s0⟩, ⟨S4x27x16384, s1⟩, ⟨S4x27x16384, s2⟩, ⟨S4x27x16384, s3⟩, ⟨S4x27x16384, s4⟩, ⟨S4x27x16384, s5⟩]
    concatenates_S4x27x16384_S4x27x16384_S4x27x16384_S4x27x16384_S4x27x16384_S4x27x16384_S24x27x16384_d0
/-- The gathered words with the scene's own words put in at the centre offset, by offset, position and word. -/
def wordsV (g : Vec Ideal S24x26x128x32x128 .i32) (x : Vec Ideal S24x128x32x128 .i32) : Vec Ideal S27x393216x32 .i32 :=
  shapeCast S27x393216x32 (transpose S27x24x128x128x32 [1, 0, 2, 4, 3]
    (concatenate S24x27x128x32x128 1 [⟨S24x13x128x32x128, extractStridedSlice S24x13x128x32x128 ![0, 0, 0, 0, 0] g slices_S24x26x128x32x128_S24x13x128x32x128_0_0_0_0_0⟩,
      ⟨S24x1x128x32x128, broadcastInDim S24x1x128x32x128 ![0, 2, 3, 4] bcast_S24x128x32x128_S24x1x128x32x128_0_2_3_4 x⟩,
      ⟨S24x13x128x32x128, extractStridedSlice S24x13x128x32x128 ![0, 13, 0, 0, 0] g slices_S24x26x128x32x128_S24x13x128x32x128_0_13_0_0_0⟩]
      concatenates_S24x13x128x32x128_S24x1x128x32x128_S24x13x128x32x128_S24x27x128x32x128_d1)
    transposes_S24x27x128x32x128_S27x24x128x128x32_1_0_2_4_3) shapeCasts_S27x24x128x128x32_S27x393216x32
/-- The scales by offset and position. -/
def scaleV (s : Vec Ideal S24x27x16384 .f32) : Vec Ideal S27x393216 .f32 :=
  shapeCast S27x393216 (transpose S27x24x16384 [1, 0, 2] s transposes_S24x27x16384_S27x24x16384_1_0_2) shapeCasts_S27x24x16384_S27x393216
/-- One byte of each word, shifted down by `z` bits. -/
def byteV (w : Vec Ideal S27x393216x32 .i32) (z : BitVec 32) : Vec Ideal S27x393216x32x1 .i32 :=
  broadcastInDim S27x393216x32x1 ![0, 1, 2] bcast_S27x393216x32_S27x393216x32x1_0_1_2
    (andi (Host.shrsi w (broadcastInDim S27x393216x32 ![] bcast_S_S27x393216x32 (constantI S_ 32 z))) (broadcastInDim S27x393216x32 ![] bcast_S_S27x393216x32 (constantI S_ 32 255#32)))
/-- The four bytes of each word, the lowest first. -/
def codesV (w : Vec Ideal S27x393216x32 .i32) : Vec Ideal S27x393216x128 .i8 :=
  trunci 8 (shapeCast S27x393216x128 (concatenate S27x393216x32x4 3 [⟨S27x393216x32x1, byteV w 0#32⟩, ⟨S27x393216x32x1, byteV w 8#32⟩, ⟨S27x393216x32x1, byteV w 16#32⟩, ⟨S27x393216x32x1, byteV w 24#32⟩]
    concatenates_S27x393216x32x1_S27x393216x32x1_S27x393216x32x1_S27x393216x32x1_S27x393216x32x4_d3) shapeCasts_S27x393216x32x4_S27x393216x128) natLt_8_32

/-- A line of operations cut in two. -/
theorem after_cut {Val : EltTy → Type} (l₁ l₂ : List (HloOp τ sig Val)) (X : Valuation τ sig Val) :
    StableHlo.after (l₁ ++ l₂) X = StableHlo.after l₂ (StableHlo.after l₁ X) := by
  induction l₁ generalizing X with
  | nil => rfl
  | cons op l ih => exact ih _
/-- The line's operations up to the words. -/
theorem head_words (X : Valuation τ sig (Elt Ideal)) : StableHlo.after ((hostOps0 (F := Ideal)).take 8) X (Proc.devRef .tc main_v7)
    = wordsV (catG (X (Proc.devRef .tc main_arg4)) (X (Proc.devRef .tc main_arg6)) (X (Proc.devRef .tc main_arg8)) (X (Proc.devRef .tc main_arg10)) (X (Proc.devRef .tc main_arg12)) (X (Proc.devRef .tc main_arg14))) (X (Proc.devRef .tc main_arg0)) := by
  simp only [hostOps0, List.take_succ_cons, List.take_zero]
  after_reads_simp
  rfl
/-- The line's operations from the words on. -/
theorem tail_codes (X : Valuation τ sig (Elt Ideal)) : StableHlo.after ((hostOps0 (F := Ideal)).drop 8) X (Proc.devRef .tc main_v32)
    = codesV (X (Proc.devRef .tc main_v7)) := by
  simp only [hostOps0, List.drop_succ_cons, List.drop_zero]
  after_reads_simp
  rfl
/-- The codes the body is given. -/
theorem V_codes (c : Dev nD) : V m c main_v32 = codesV (wordsV (catG (m ((c : Thread nD τ).loc main_arg4)) (m ((c : Thread nD τ).loc main_arg6)) (m ((c : Thread nD τ).loc main_arg8)) (m ((c : Thread nD τ).loc main_arg10)) (m ((c : Thread nD τ).loc main_arg12)) (m ((c : Thread nD τ).loc main_arg14))) (m ((c : Thread nD τ).loc main_arg0))) := by
  show StableHlo.after ((hostOps0 (F := Ideal)).take 8 ++ (hostOps0 (F := Ideal)).drop 8) (fun b => m (c, b)) (Proc.devRef .tc main_v32) = _
  rw [after_cut, tail_codes, head_words]
/-- The scales the body is given. -/
theorem V_scale (c : Dev nD) : V m c main_v9 = scaleV (catS (m ((c : Thread nD τ).loc main_arg5)) (m ((c : Thread nD τ).loc main_arg7)) (m ((c : Thread nD τ).loc main_arg9)) (m ((c : Thread nD τ).loc main_arg11)) (m ((c : Thread nD τ).loc main_arg13)) (m ((c : Thread nD τ).loc main_arg15))) := by
  unfold V
  after_reads_simp
  rfl
/-- A byte of a word, shifted down and cut to eight bits. -/
theorem byte_eq (w z : BitVec 32) (hz : z.toNat ≤ 24) : BitVec.setWidth 8 (IntOp.andi (IntOp.shrsi ArithUnit.host w z) 255#32) = w.extractLsb' z.toNat 8 := by
  rw [IntOp.shrsi, if_pos (show z.toNat < 32 by omega)]
  refine BitVec.eq_of_getLsbD_eq fun i hi => ?_
  have h255 : (255#32).getLsbD i = true := by interval_cases i <;> rfl
  have hi' : z.toNat + i < 32 := by omega
  have hi'' : ¬ 32 ≤ i := by omega
  simp [IntOp.andi, BitVec.sshiftRight_eq', BitVec.getLsbD_sshiftRight, h255, hi, hi', hi'']
  exact fun _ => (by decide : ∀ (j : ℕ) (hj : j < 8), (255#8)[j] = true) i hi
/-- The words at an index. -/
theorem wordsV_apply (g : Vec Ideal S24x26x128x32x128 .i32) (x : Vec Ideal S24x128x32x128 .i32) (k : Fin 27) (n : Fin 24) (p : Fin 16384) (r : Fin 32) :
    wordsV g x (ix3 k ⟨n.val * 16384 + p.val, by omega⟩ r)
      = if h : k.val < 13 then g (ix5 n ⟨k.val, by omega⟩ ⟨p.val / 128, by omega⟩ r ⟨p.val % 128, by omega⟩)
        else if k.val = 13 then x (ix4 n ⟨p.val / 128, by omega⟩ r ⟨p.val % 128, by omega⟩)
        else g (ix5 n ⟨k.val - 1, by omega⟩ ⟨p.val / 128, by omega⟩ r ⟨p.val % 128, by omega⟩) := by
  pointwise [wordsV]
  have e1 : ∀ h, (⟨(n.val * 16384 + p.val) / 128 % 128, h⟩ : Fin 128) = ⟨p.val / 128, by omega⟩ := fun h => Fin.ext (by show (n.val * 16384 + p.val) / 128 % 128 = p.val / 128; omega)
  have e2 : ∀ h, (⟨(n.val * 16384 + p.val) % 128, h⟩ : Fin 128) = ⟨p.val % 128, by omega⟩ := fun h => Fin.ext (by show (n.val * 16384 + p.val) % 128 = p.val % 128; omega)
  simp only [e1, e2]
  refine dite_congr rfl (fun _ => rfl) fun h => ?_
  by_cases h' : k.val = 13
  · exact (dif_pos (show k.val - 13 < 1 by omega)).trans (if_pos h').symm
  · refine (dif_neg (show ¬ k.val - 13 < 1 by omega)).trans (Eq.trans ?_ (if_neg h').symm)
    exact congrArg (fun a => g (ix5 n a ⟨p.val / 128, by omega⟩ r ⟨p.val % 128, by omega⟩)) (Fin.ext (show 13 + (k.val - 13 - 1) = k.val - 1 by omega))
/-- The scales at an index. -/
theorem scaleV_apply (s : Vec Ideal S24x27x16384 .f32) (k : Fin 27) (n : Fin 24) (p : Fin 16384) :
    scaleV s (ix2 k ⟨n.val * 16384 + p.val, by omega⟩) = s (ix3 n k p) := by
  pointwise [scaleV]
/-- The codes' bytes at an index. -/
theorem codesV_apply (w : Vec Ideal S27x393216x32 .i32) (k : Fin 27) (q : Fin 393216) (d : Fin 128) :
    codesV w (ix3 k q d) = (w (ix3 k q ⟨d.val / 4, by omega⟩)).extractLsb' (8 * (d.val % 4)) 8 := by
  pointwise [codesV, byteV]
  obtain h | h | h | h : d.val % 4 = 0 ∨ d.val % 4 = 1 ∨ d.val % 4 = 2 ∨ d.val % 4 = 3 := by omega
  · rw [dif_pos (by omega)]; exact (byte_eq _ 0#32 (by decide)).trans (congrArg (fun z => BitVec.extractLsb' z 8 _) (show 0 = 8 * (d.val % 4) by omega))
  · rw [dif_neg (by omega), dif_pos (by omega)]; exact (byte_eq _ 8#32 (by decide)).trans (congrArg (fun z => BitVec.extractLsb' z 8 _) (show 8 = 8 * (d.val % 4) by omega))
  · rw [dif_neg (by omega), dif_neg (by omega), dif_pos (by omega)]; exact (byte_eq _ 16#32 (by decide)).trans (congrArg (fun z => BitVec.extractLsb' z 8 _) (show 16 = 8 * (d.val % 4) by omega))
  · rw [dif_neg (by omega), dif_neg (by omega), dif_neg (by omega)]; exact (byte_eq _ 24#32 (by decide)).trans (congrArg (fun z => BitVec.extractLsb' z 8 _) (show 24 = 8 * (d.val % 4) by omega))

end Cert.ReferenceIdeal.Value

end
-- ==== Proof.Payload.lean ====
/- The reference's body at an index. -/
module

public import proofs.«01_k».proof.Proof.Gen.ReferenceIdeal.Value
public import Idealize.ShloMosaic.Lib.Pointwise

@[expose] public section

set_option maxRecDepth 16384

noncomputable section

namespace Cert.ReferenceIdeal.Value

open Cert.ReferenceIdeal Cert.ReferenceIdeal.Gen Idealize.ShloMosaic Idealize.ShloMosaic.TcCoe Idealize.ShloMosaic.Pointwise
open scoped BigOperators

/-- What the body stores, for scene `n`, position `p` and channel `o`: over the offsets, the dot product of the codes
    with the weights, times both scales, and the bias. -/
theorem pay_apply (a : Vec Ideal S27x393216x128 .i8) (w : Vec Ideal S27x128x256 .fp8e4m3) (s : Vec Ideal S27x393216 .f32) (ws : Vec Ideal S27x256 .f32) (b : Vec Ideal S256 .f32)
    (n : Fin 24) (p : Fin 16384) (o : Fin 256) :
    k0_pay1 a w s ws b (ix3 n p o : S24x16384x256.Idx)
      = (∑ k : Fin 27, (∑ d : Fin 128, (FloatOps.ofBits .fp8e4m3 (a (ix3 k ⟨n.val * 16384 + p.val, by omega⟩ d)) : Ideal .fp8e4m3) * w (ix3 k d o))
          * (s (ix2 k ⟨n.val * 16384 + p.val, by omega⟩) * ws (ix2 k o))) + b (ix1 o) := by
  pointwise [k0_pay1]

end Cert.ReferenceIdeal.Value

end
-- ==== Proof.RefValue.lean ====
/- The reference's result array: its body applied to the whole arrays, at an index. -/
module

public import proofs.«01_k».proof.Proof.Host
public import proofs.«01_k».proof.Proof.Payload

@[expose] public section

set_option maxRecDepth 16384

noncomputable section

namespace Cert.ReferenceIdeal.Value

open Cert.ReferenceIdeal Cert.ReferenceIdeal.Gen Idealize.ShloMosaic Idealize.ShloMosaic.TcCoe Idealize.ShloMosaic.Pointwise Idealize.SL.Sem
open Idealize.ShloMosaic.Pipeline (Dat Window)
open scoped BigOperators

variable (m : (ℓ : Loc nD τ sig) → Buf (Elt Ideal) ℓ) (ρ : Dev nD → PrngReg)

/-! ## Every window is its whole array -/

theorem zero0 : ∀ (t : Fin grid0.N) (a : Fin 3), win0_0.index t a = 0 := by decide +kernel
theorem zero1 : ∀ (t : Fin grid0.N) (a : Fin 2), win0_1.index t a = 0 := by decide +kernel
theorem zero2 : ∀ (t : Fin grid0.N) (a : Fin 3), win0_2.index t a = 0 := by decide +kernel
theorem zero3 : ∀ (t : Fin grid0.N) (a : Fin 2), win0_3.index t a = 0 := by decide +kernel
theorem zero4 : ∀ (t : Fin grid0.N) (a : Fin 1), win0_4.index t a = 0 := by decide +kernel
theorem zero5 : ∀ (t : Fin grid0.N) (a : Fin 3), win0_5.index t a = 0 := by decide +kernel

/-- A block at block index zero begins at the array's beginning. -/
theorem at_zero {i n j : ℕ} (h : i = 0) : i * n + j = j := by rw [h, Nat.zero_mul, Nat.zero_add]

theorem emb5 (t : Fin cfg0.N) (j : S24x16384x256.Idx) : ((cfg0.win 5).blk t).view.emb j = j :=
  funext fun a => Fin.ext ((Window.rect_emb_val win0_5 t j a).trans (at_zero (zero5 t a)))
theorem iblk0 (c : Dev nD) (t : Fin cfg0.N) : iblk m c 0 t = V m c main_v32 :=
  funext fun j => congrArg (V m c main_v32) (funext fun a => Fin.ext ((Window.rect_emb_val win0_0 t j a).trans (at_zero (zero0 t a))))
theorem iblk1 (c : Dev nD) (t : Fin cfg0.N) : iblk m c 1 t = V m c main_v9 :=
  funext fun j => congrArg (V m c main_v9) (funext fun a => Fin.ext ((Window.rect_emb_val win0_1 t j a).trans (at_zero (zero1 t a))))
theorem iblk2 (c : Dev nD) (t : Fin cfg0.N) : iblk m c 2 t = V m c main_arg1 :=
  funext fun j => congrArg (V m c main_arg1) (funext fun a => Fin.ext ((Window.rect_emb_val win0_2 t j a).trans (at_zero (zero2 t a))))
theorem iblk3 (c : Dev nD) (t : Fin cfg0.N) : iblk m c 3 t = V m c main_arg2 :=
  funext fun j => congrArg (V m c main_arg2) (funext fun a => Fin.ext ((Window.rect_emb_val win0_3 t j a).trans (at_zero (zero3 t a))))
theorem iblk4 (c : Dev nD) (t : Fin cfg0.N) : iblk m c 4 t = V m c main_arg3 :=
  funext fun j => congrArg (V m c main_arg3) (funext fun a => Fin.ext ((Window.rect_emb_val win0_4 t j a).trans (at_zero (zero4 t a))))

/-- What the body leaves in its result is what it stores. -/
theorem out_eq (x0 : Vec Ideal S27x393216x128 .i8) (x1 : Vec Ideal S27x393216 .f32) (x2 : Vec Ideal S27x128x256 .fp8e4m3) (x3 : Vec Ideal S27x256 .f32) (x4 : Vec Ideal S256 .f32) :
    out0_5 x0 x1 x2 x3 x4 = k0_pay1 x0 x2 x1 x3 x4 := by
  have z3 : (![0, 0, 0] : Fin 3 → ℕ) = fun _ => 0 := by decide
  have z2 : (![0, 0] : Fin 2 → ℕ) = fun _ => 0 := by decide
  have z1 : (![0] : Fin 1 → ℕ) = fun _ => 0 := by decide
  unfold out0_5
  refine (View.canon_unit_zero z3 _ _).trans ?_
  have e0 : View.ld x0 r0_0 = x0 := View.ld_unit_zero z3 _ _
  have e1 : View.ld x2 r0_1 = x2 := View.ld_unit_zero z3 _ _
  have e2 : View.ld x1 r0_2 = x1 := View.ld_unit_zero z2 _ _
  have e3 : View.ld x3 r0_3 = x3 := View.ld_unit_zero z2 _ _
  have e4 : View.ld x4 r0_4 = x4 := View.ld_unit_zero z1 _ _
  rw [e0, e1, e2, e3, e4]

/-- The reference's result from the launch memory. -/
def refOut (c : Dev nD) : Vec Ideal S24x16384x256 .f32 :=
  k0_pay1 (V m c main_v32) (V m c main_arg1) (V m c main_v9) (V m c main_arg2) (V m c main_arg3)

/-- A whole-array block's cut of a result is that result read through the block. -/
theorem cut_eq (t : Fin cfg0.N) (X : Vec Ideal S24x16384x256 .f32) :
    (cfg0.win 5).cut (grid0.coords t) X = ((cfg0.win 5).blk t).view.read (Elt Ideal) X := by
  funext j
  refine Eq.trans ?_ (congrArg X (emb5 t j)).symm
  rfl

/-- The one point writes back the whole result. -/
theorem flushed_eq (c : Dev nD) (t : Fin cfg0.N) : (dats m 0 c).flushed 5 t = ((cfg0.win 5).blk t).view.read (Elt Ideal) (refOut m c) := by
  rw [flushed5, iblk0, iblk1, iblk2, iblk3, iblk4, out_eq]
  exact cut_eq t (refOut m c)

/-- Every index of the result is in the one point's block. -/
theorem covered (i : S24x16384x256.Idx) : ∃ t : Fin cfg0.N, (cfg0.win 5).flush t = true ∧ i ∈ ((cfg0.win 5).blk t).view.set :=
  ⟨t0_0, flush0_5 _, by
    have h := ((cfg0.win 5).blk t0_0).view.emb_mem_set i
    rwa [emb5] at h⟩

/-- The result array after the run. -/
theorem final (c : Dev nD) : (dats m 0 c).arrAt 5 cfg0.N = refOut m c :=
  (dats m 0 c).arrAt_eq_of_cover 5 (refOut m c) (fun t _ => flushed_eq m c t) covered

/-- The result at an index: over the offsets, the dot product of the position's codes with the weights, times both
    scales, and the bias. -/
theorem refOut_apply (c : Dev nD) (n : Fin 24) (p : Fin 16384) (o : Fin 256) :
    refOut m c (ix3 n p o) = (∑ k : Fin 27, (∑ d : Fin 128, (FloatOps.ofBits .fp8e4m3
          ((wordsV (catG (m ((c : Thread nD τ).loc main_arg4)) (m ((c : Thread nD τ).loc main_arg6)) (m ((c : Thread nD τ).loc main_arg8)) (m ((c : Thread nD τ).loc main_arg10)) (m ((c : Thread nD τ).loc main_arg12)) (m ((c : Thread nD τ).loc main_arg14))) (m ((c : Thread nD τ).loc main_arg0)) (ix3 k ⟨n.val * 16384 + p.val, by omega⟩ ⟨d.val / 4, by omega⟩)).extractLsb' (8 * (d.val % 4)) 8) : Ideal .fp8e4m3)
            * (m ((c : Thread nD τ).loc main_arg1) : Vec Ideal S27x128x256 .fp8e4m3) (ix3 k d o))
          * ((catS (m ((c : Thread nD τ).loc main_arg5)) (m ((c : Thread nD τ).loc main_arg7)) (m ((c : Thread nD τ).loc main_arg9)) (m ((c : Thread nD τ).loc main_arg11)) (m ((c : Thread nD τ).loc main_arg13)) (m ((c : Thread nD τ).loc main_arg15))) (ix3 n k p) * (m ((c : Thread nD τ).loc main_arg2) : Vec Ideal S27x256 .f32) (ix2 k o))) + (m ((c : Thread nD τ).loc main_arg3) : Vec Ideal S256 .f32) (ix1 o) := by
  unfold refOut
  rw [V_codes, V_scale, V_main_arg1, V_main_arg2, V_main_arg3, pay_apply]
  simp only [codesV_apply, scaleV_apply]

end Cert.ReferenceIdeal.Value

end
-- ==== Proof.Equation.lean ====
/- The equation: the six calls' array and the reference's array agree at every index. -/
module

public import proofs.«01_k».proof.Proof.Final
public import proofs.«01_k».proof.Proof.RefValue

@[expose] public section

set_option maxRecDepth 16384

noncomputable section

namespace Cert.Equation

open Idealize.ShloMosaic Idealize.ShloMosaic.TcCoe Idealize.ShloMosaic.Pointwise
open Cert.KernelIdeal.Gen (wT wsT sgT bT)
open Cert.KernelIdeal (S27x128x256 S27x256 S256 S4x27x16384 S4x26x128x32x128 S24x128x32x128)
open Cert.ReferenceIdeal.Value (catG catS)
open scoped BigOperators

/-! ## The kernel's operands at an index -/

theorem wT_apply (w : Vec Ideal S27x128x256 .fp8e4m3) (k : Fin 27) (o : Fin 256) (d : Fin 128) : wT w (ix3 k o d) = w (ix3 k d o) := by
  pointwise [wT]
theorem wsT_apply (s : Vec Ideal S27x256 .f32) (k : Fin 27) (o : Fin 256) (l : Fin 128) : wsT s (ix3 k o l) = s (ix2 k o) := by
  pointwise [wsT]
theorem bT_apply (b : Vec Ideal S256 .f32) (z : Fin 1) (o : Fin 256) : bT b (ix2 z o) = b (ix1 o) := by
  pointwise [bT]
theorem sgT_apply (s : Vec Ideal S4x27x16384 .f32) (n : Fin 4) (k : Fin 27) (p : Fin 16384) :
    sgT s (ix5 n k ⟨p.val / 512, by omega⟩ ⟨p.val % 512 / 128, by omega⟩ ⟨p.val % 128, by omega⟩) = s (ix3 n k p) := by
  pointwise [sgT]

/-! ## Six groups as one array -/

/-- The group numbered `j`, the last one from 5 on. -/
def sel {α : Type} (a0 a1 a2 a3 a4 a5 : α) (j : ℕ) : α :=
  match j with
  | 0 => a0
  | 1 => a1
  | 2 => a2
  | 3 => a3
  | 4 => a4
  | _ => a5

/-- A choice among six functions, applied. -/
theorem sel_app {α β γ : Type} (φ : α → β → γ) (a0 a1 a2 a3 a4 a5 : α) (j : ℕ) (x : β) :
    sel (φ a0) (φ a1) (φ a2) (φ a3) (φ a4) (φ a5) j x = φ (sel a0 a1 a2 a3 a4 a5 j) x := by
  unfold sel
  split <;> rfl

/-- Six pieces of four entries each, one after the other: entry `n` is entry `n % 4` of piece `n / 4`. -/
theorem ladder {β : Type} (f0 f1 f2 f3 f4 f5 : Fin 4 → β) (n : Fin 24) :
    (if h : n.val < 4 then f0 ⟨n.val, h⟩ else if h : n.val - 4 < 4 then f1 ⟨n.val - 4, h⟩ else if h : n.val - 4 - 4 < 4 then f2 ⟨n.val - 4 - 4, h⟩
      else if h : n.val - 4 - 4 - 4 < 4 then f3 ⟨n.val - 4 - 4 - 4, h⟩ else if h : n.val - 4 - 4 - 4 - 4 < 4 then f4 ⟨n.val - 4 - 4 - 4 - 4, h⟩
      else f5 ⟨n.val - 4 - 4 - 4 - 4 - 4, by omega⟩) = sel f0 f1 f2 f3 f4 f5 (n.val / 4) ⟨n.val % 4, by omega⟩ := by
  fin_cases n <;> rfl

theorem catG_apply (g0 g1 g2 g3 g4 g5 : Vec Ideal S4x26x128x32x128 .i32) (n : Fin 24) (k : Fin 26) (u : Fin 128) (r : Fin 32) (l : Fin 128) :
    catG g0 g1 g2 g3 g4 g5 (ix5 n k u r l) = sel g0 g1 g2 g3 g4 g5 (n.val / 4) (ix5 ⟨n.val % 4, by omega⟩ k u r l) := by
  pointwise [catG]
  exact (ladder (fun a => g0 (ix5 a k u r l)) (fun a => g1 (ix5 a k u r l)) (fun a => g2 (ix5 a k u r l)) (fun a => g3 (ix5 a k u r l))
    (fun a => g4 (ix5 a k u r l)) (fun a => g5 (ix5 a k u r l)) n).trans
    (sel_app (fun (g : Vec Ideal S4x26x128x32x128 .i32) (a : Fin 4) => g (ix5 a k u r l)) g0 g1 g2 g3 g4 g5 _ _)
theorem catS_apply (s0 s1 s2 s3 s4 s5 : Vec Ideal S4x27x16384 .f32) (n : Fin 24) (k : Fin 27) (p : Fin 16384) :
    catS s0 s1 s2 s3 s4 s5 (ix3 n k p) = sel s0 s1 s2 s3 s4 s5 (n.val / 4) (ix3 ⟨n.val % 4, by omega⟩ k p) := by
  pointwise [catS]
  exact (ladder (fun a => s0 (ix3 a k p)) (fun a => s1 (ix3 a k p)) (fun a => s2 (ix3 a k p)) (fun a => s3 (ix3 a k p))
    (fun a => s4 (ix3 a k p)) (fun a => s5 (ix3 a k p)) n).trans
    (sel_app (fun (s : Vec Ideal S4x27x16384 .f32) (a : Fin 4) => s (ix3 a k p)) s0 s1 s2 s3 s4 s5 _ _)

/-! ## The equation -/

/-- The word that the kernel reads is the reference's word, when the gathered codes of all scenes hold the group's. -/
theorem word_eq (x : Vec Ideal S24x128x32x128 .i32) (g : Vec Ideal S4x26x128x32x128 .i32) (G : Vec Ideal Cert.ReferenceIdeal.S24x26x128x32x128 .i32) (n : Fin 24)
    (hG : ∀ k u r l, G (ix5 n k u r l) = g (ix5 ⟨n.val % 4, by omega⟩ k u r l)) (k : Fin 27) (p : Fin 16384) (r : Fin 32) (u : Fin 128) (hu : u.val = p.val / 128) :
    Cert.KernelIdeal.Gen.Conv.wordA x g ⟨n.val % 4, by omega⟩ n k u r ⟨p.val % 128, by omega⟩
      = Cert.ReferenceIdeal.Value.wordsV G x (ix3 k ⟨n.val * 16384 + p.val, by omega⟩ r) := by
  have hp : p.val / 128 < 128 := by omega
  refine (congrArg (fun u => Cert.KernelIdeal.Gen.Conv.wordA x g ⟨n.val % 4, by omega⟩ n k u r ⟨p.val % 128, by omega⟩) (Fin.ext hu : u = ⟨p.val / 128, hp⟩)).trans ?_
  refine Eq.trans ?_ (Cert.ReferenceIdeal.Value.wordsV_apply G x k n p r).symm
  unfold Cert.KernelIdeal.Gen.Conv.wordA
  refine dite_congr rfl (fun _ => (hG _ _ _ _).symm) fun h => ?_
  exact if_congr Iff.rfl rfl (hG _ _ _ _).symm

/-- The convolution as the kernel's calls compute it, scale by scale, is the reference's, whose products come after the
    two scales' product. -/
theorem conv_eq (g : Vec Ideal S4x26x128x32x128 .i32) (x : Vec Ideal S24x128x32x128 .i32) (s : Vec Ideal S4x27x16384 .f32) (w : Vec Ideal S27x128x256 .fp8e4m3)
    (ws : Vec Ideal S27x256 .f32) (b : Vec Ideal S256 .f32) (G : Vec Ideal Cert.ReferenceIdeal.S24x26x128x32x128 .i32) (S : Vec Ideal Cert.ReferenceIdeal.S24x27x16384 .f32)
    (n : Fin 24) (hG : ∀ k u r l, G (ix5 n k u r l) = g (ix5 ⟨n.val % 4, by omega⟩ k u r l)) (hS : ∀ k p, S (ix3 n k p) = s (ix3 ⟨n.val % 4, by omega⟩ k p))
    (p : Fin 16384) (o : Fin 256) :
    Cert.KernelIdeal.Gen.Conv.convG g x (sgT s) (wT w) (wsT ws) (bT b) (ix3 n p o)
      = (∑ k : Fin 27, (∑ d : Fin 128, (FloatOps.ofBits .fp8e4m3
          ((Cert.ReferenceIdeal.Value.wordsV G x (ix3 k ⟨n.val * 16384 + p.val, by omega⟩ ⟨d.val / 4, by omega⟩)).extractLsb' (8 * (d.val % 4)) 8) : Ideal .fp8e4m3)
            * w (ix3 k d o)) * (S (ix3 n k p) * ws (ix2 k o))) + b (ix1 o) := by
  show Cert.KernelIdeal.Gen.Conv.convA g x (sgT s) (wT w) (wsT ws) (bT b) ⟨n.val % 4, by omega⟩ n ⟨p.val / 512, by omega⟩ ⟨p.val % 512 / 128, by omega⟩ ⟨p.val % 128, by omega⟩ o = _
  unfold Cert.KernelIdeal.Gen.Conv.convA
  refine congrArg₂ (· + ·) (Finset.sum_congr rfl fun k _ => ?_) (bT_apply b 0 o)
  refine (mul_assoc _ _ _).trans (congrArg₂ (· * ·) (Finset.sum_congr rfl fun d _ => ?_) (congrArg₂ (· * ·) ((sgT_apply s _ k p).trans (hS k p).symm) (wsT_apply ws k o _)))
  refine (mul_comm _ _).trans (congrArg₂ (· * ·) ?_ (wT_apply w k o d))
  exact congrArg (fun z : BitVec 32 => (FloatOps.ofBits .fp8e4m3 (z.extractLsb' (8 * (d.val % 4)) 8) : Ideal .fp8e4m3))
    (word_eq x g G n hG k p _ _ (show 4 * (p.val / 512) + p.val % 512 / 128 = p.val / 128 by omega))

/-- The group's gathered codes and scales by number. -/
theorem gAt_sel (m : (ℓ : Loc Cert.KernelIdeal.nD Cert.KernelIdeal.τ Cert.KernelIdeal.sig) → Buf (Elt Ideal) ℓ) (c : Dev Cert.KernelIdeal.nD) (j : ℕ) :
    Cert.KernelIdeal.Gen.gAt m c j = sel (m ((c : Thread Cert.KernelIdeal.nD Cert.KernelIdeal.τ).loc Cert.KernelIdeal.main_arg4)) (m ((c : Thread Cert.KernelIdeal.nD Cert.KernelIdeal.τ).loc Cert.KernelIdeal.main_arg6)) (m ((c : Thread Cert.KernelIdeal.nD Cert.KernelIdeal.τ).loc Cert.KernelIdeal.main_arg8)) (m ((c : Thread Cert.KernelIdeal.nD Cert.KernelIdeal.τ).loc Cert.KernelIdeal.main_arg10)) (m ((c : Thread Cert.KernelIdeal.nD Cert.KernelIdeal.τ).loc Cert.KernelIdeal.main_arg12)) (m ((c : Thread Cert.KernelIdeal.nD Cert.KernelIdeal.τ).loc Cert.KernelIdeal.main_arg14)) j := by
  match j with
  | 0 => rfl
  | 1 => rfl
  | 2 => rfl
  | 3 => rfl
  | 4 => rfl
  | _ + 5 => rfl
theorem sgAt_sel (m : (ℓ : Loc Cert.KernelIdeal.nD Cert.KernelIdeal.τ Cert.KernelIdeal.sig) → Buf (Elt Ideal) ℓ) (c : Dev Cert.KernelIdeal.nD) (j : ℕ) :
    Cert.KernelIdeal.Gen.sgAt m c j = sel (m ((c : Thread Cert.KernelIdeal.nD Cert.KernelIdeal.τ).loc Cert.KernelIdeal.main_arg5)) (m ((c : Thread Cert.KernelIdeal.nD Cert.KernelIdeal.τ).loc Cert.KernelIdeal.main_arg7)) (m ((c : Thread Cert.KernelIdeal.nD Cert.KernelIdeal.τ).loc Cert.KernelIdeal.main_arg9)) (m ((c : Thread Cert.KernelIdeal.nD Cert.KernelIdeal.τ).loc Cert.KernelIdeal.main_arg11)) (m ((c : Thread Cert.KernelIdeal.nD Cert.KernelIdeal.τ).loc Cert.KernelIdeal.main_arg13)) (m ((c : Thread Cert.KernelIdeal.nD Cert.KernelIdeal.τ).loc Cert.KernelIdeal.main_arg15)) j := by
  match j with
  | 0 => rfl
  | 1 => rfl
  | 2 => rfl
  | 3 => rfl
  | 4 => rfl
  | _ + 5 => rfl

/-- From equal arguments the six calls' array and the reference's array are equal. -/
theorem result_eq (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (h0 : m' ((c : Thread Cert.ReferenceIdeal.nD Cert.ReferenceIdeal.τ).loc Cert.ReferenceIdeal.main_arg0) = m ((c : Thread Cert.KernelIdeal.nD Cert.KernelIdeal.τ).loc Cert.KernelIdeal.main_arg0))
    (h1 : m' ((c : Thread Cert.ReferenceIdeal.nD Cert.ReferenceIdeal.τ).loc Cert.ReferenceIdeal.main_arg1) = m ((c : Thread Cert.KernelIdeal.nD Cert.KernelIdeal.τ).loc Cert.KernelIdeal.main_arg1))
    (h2 : m' ((c : Thread Cert.ReferenceIdeal.nD Cert.ReferenceIdeal.τ).loc Cert.ReferenceIdeal.main_arg2) = m ((c : Thread Cert.KernelIdeal.nD Cert.KernelIdeal.τ).loc Cert.KernelIdeal.main_arg2))
    (h3 : m' ((c : Thread Cert.ReferenceIdeal.nD Cert.ReferenceIdeal.τ).loc Cert.ReferenceIdeal.main_arg3) = m ((c : Thread Cert.KernelIdeal.nD Cert.KernelIdeal.τ).loc Cert.KernelIdeal.main_arg3))
    (h4 : m' ((c : Thread Cert.ReferenceIdeal.nD Cert.ReferenceIdeal.τ).loc Cert.ReferenceIdeal.main_arg4) = m ((c : Thread Cert.KernelIdeal.nD Cert.KernelIdeal.τ).loc Cert.KernelIdeal.main_arg4))
    (h5 : m' ((c : Thread Cert.ReferenceIdeal.nD Cert.ReferenceIdeal.τ).loc Cert.ReferenceIdeal.main_arg5) = m ((c : Thread Cert.KernelIdeal.nD Cert.KernelIdeal.τ).loc Cert.KernelIdeal.main_arg5))
    (h6 : m' ((c : Thread Cert.ReferenceIdeal.nD Cert.ReferenceIdeal.τ).loc Cert.ReferenceIdeal.main_arg6) = m ((c : Thread Cert.KernelIdeal.nD Cert.KernelIdeal.τ).loc Cert.KernelIdeal.main_arg6))
    (h7 : m' ((c : Thread Cert.ReferenceIdeal.nD Cert.ReferenceIdeal.τ).loc Cert.ReferenceIdeal.main_arg7) = m ((c : Thread Cert.KernelIdeal.nD Cert.KernelIdeal.τ).loc Cert.KernelIdeal.main_arg7))
    (h8 : m' ((c : Thread Cert.ReferenceIdeal.nD Cert.ReferenceIdeal.τ).loc Cert.ReferenceIdeal.main_arg8) = m ((c : Thread Cert.KernelIdeal.nD Cert.KernelIdeal.τ).loc Cert.KernelIdeal.main_arg8))
    (h9 : m' ((c : Thread Cert.ReferenceIdeal.nD Cert.ReferenceIdeal.τ).loc Cert.ReferenceIdeal.main_arg9) = m ((c : Thread Cert.KernelIdeal.nD Cert.KernelIdeal.τ).loc Cert.KernelIdeal.main_arg9))
    (h10 : m' ((c : Thread Cert.ReferenceIdeal.nD Cert.ReferenceIdeal.τ).loc Cert.ReferenceIdeal.main_arg10) = m ((c : Thread Cert.KernelIdeal.nD Cert.KernelIdeal.τ).loc Cert.KernelIdeal.main_arg10))
    (h11 : m' ((c : Thread Cert.ReferenceIdeal.nD Cert.ReferenceIdeal.τ).loc Cert.ReferenceIdeal.main_arg11) = m ((c : Thread Cert.KernelIdeal.nD Cert.KernelIdeal.τ).loc Cert.KernelIdeal.main_arg11))
    (h12 : m' ((c : Thread Cert.ReferenceIdeal.nD Cert.ReferenceIdeal.τ).loc Cert.ReferenceIdeal.main_arg12) = m ((c : Thread Cert.KernelIdeal.nD Cert.KernelIdeal.τ).loc Cert.KernelIdeal.main_arg12))
    (h13 : m' ((c : Thread Cert.ReferenceIdeal.nD Cert.ReferenceIdeal.τ).loc Cert.ReferenceIdeal.main_arg13) = m ((c : Thread Cert.KernelIdeal.nD Cert.KernelIdeal.τ).loc Cert.KernelIdeal.main_arg13))
    (h14 : m' ((c : Thread Cert.ReferenceIdeal.nD Cert.ReferenceIdeal.τ).loc Cert.ReferenceIdeal.main_arg14) = m ((c : Thread Cert.KernelIdeal.nD Cert.KernelIdeal.τ).loc Cert.KernelIdeal.main_arg14))
    (h15 : m' ((c : Thread Cert.ReferenceIdeal.nD Cert.ReferenceIdeal.τ).loc Cert.ReferenceIdeal.main_arg15) = m ((c : Thread Cert.KernelIdeal.nD Cert.KernelIdeal.τ).loc Cert.KernelIdeal.main_arg15)) :
    Cert.ReferenceIdeal.Value.refOut m' c = Cert.KernelIdeal.Gen.W12 m ρ c (Proc.devRef .tc Cert.KernelIdeal.main_v20) := by
  funext i
  obtain ⟨n, p, o, rfl⟩ : ∃ (n : Fin 24) (p : Fin 16384) (o : Fin 256), i = ix3 n p o :=
    ⟨i 0, i 1, i 2, funext fun a => by fin_cases a <;> rfl⟩
  refine Eq.trans ?_ (Cert.KernelIdeal.Gen.result_apply m ρ c (ix3 n p o)).symm
  refine (Cert.ReferenceIdeal.Value.refOut_apply m' c n p o).trans ?_
  rw [h0, h1, h2, h3, h4, h5, h6, h7, h8, h9, h10, h11, h12, h13, h14, h15]
  exact (conv_eq _ _ _ _ _ _ _ _ n (fun k u r l => (catG_apply _ _ _ _ _ _ n k u r l).trans (congrArg (fun g : Vec Ideal S4x26x128x32x128 .i32 => g (ix5 ⟨n.val % 4, by omega⟩ k u r l)) (gAt_sel m c _).symm))
    (fun k p => (catS_apply _ _ _ _ _ _ n k p).trans (congrArg (fun s : Vec Ideal S4x27x16384 .f32 => s (ix3 ⟨n.val % 4, by omega⟩ k p)) (sgAt_sel m c _).symm)) p o).symm

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Run
public import proofs.«01_k».proof.Proof.Equation
public import Idealize.ShloMosaic.Adequacy
public import Idealize.ShloMosaic.Init

@[expose] public section

noncomputable section

namespace Cert.Proof

open Idealize.ShloMosaic Idealize.ShloMosaic.TcCoe Idealize.SL.Sem Cert.Kernel

/-- From equal arguments the six calls and the reference end with the same result array. -/
theorem algebraic : @Cert.algebraic_KernelIdeal_ReferenceIdeal Cert.KernelIdeal.Gen.facts Cert.ReferenceIdeal.Gen.facts := by
  intro m g m' g' _ hag
  refine ⟨fun c => Cert.KernelIdeal.Gen.W12 m g c (Proc.devRef .tc Cert.KernelIdeal.main_v20), Cert.KernelIdeal.Gen.run m g,
    (θ_run _ _ _).mono (fun r h c => ⟨(h c).1.trans ((Cert.ReferenceIdeal.Value.final m' c).trans ?_), (h c).2⟩) (Cert.ReferenceIdeal.Value.run_blocks m' g')⟩
  obtain ⟨h0, h1, h2, h3, h4, h5, h6, h7, h8, h9, h10, h11, h12, h13, h14, h15⟩ := hag c
  exact Cert.Equation.result_eq m g m' c h0 h1 h2 h3 h4 h5 h6 h7 h8 h9 h10 h11 h12 h13 h14 h15

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, fun m ρ _ => Cert.ReferenceIdeal.Gen.frame m ρ, trivial, algebraic⟩

end Cert.Proof

end
